-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_finite_inputs [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5))) = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_finite_inputs [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5))) = (fun _ => 1#1)

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))
      ∧ r.2.sem = fun _ => 0)

def quiescent_KernelIdeal_pre_finite_inputs [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_finite_inputs m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5))
      ∧ r.2.sem = fun _ => 0)

def quiescent_ReferenceIdeal_pre_finite_inputs [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_finite_inputs m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5))
      ∧ r.2.sem = fun _ => 0)

def preserves_Kernel_KernelIdeal : Prop :=
  IdealRules.named_const.Statement Cert.KernelIdeal.κ "inv_n" .f32 0x3727C5AC#32 ((100000⁻¹ : ℝ) : EReal)

def algebraic_KernelIdeal_ReferenceIdeal_pre_finite_inputs [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_finite_inputs m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)) →
    ∃ (v0 : (c : Dev Cert.KernelIdeal.nD) → Buf (Elt Ideal) ((c.tc : Thread Cert.KernelIdeal.nD Cert.KernelIdeal.τ).loc Cert.KernelIdeal.main_v0_0)) (v1 : (c : Dev Cert.KernelIdeal.nD) → Buf (Elt Ideal) ((c.tc : Thread Cert.KernelIdeal.nD Cert.KernelIdeal.τ).loc Cert.KernelIdeal.main_v0_1)) (v2 : (c : Dev Cert.KernelIdeal.nD) → Buf (Elt Ideal) ((c.tc : Thread Cert.KernelIdeal.nD Cert.KernelIdeal.τ).loc Cert.KernelIdeal.main_v0_2)) (v3 : (c : Dev Cert.KernelIdeal.nD) → Buf (Elt Ideal) ((c.tc : Thread Cert.KernelIdeal.nD Cert.KernelIdeal.τ).loc Cert.KernelIdeal.main_v0_3)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v0_0) = v0 c
          ∧ r.2.mem ((c.tc : Thread Cert.KernelIdeal.nD Cert.KernelIdeal.τ).loc Cert.KernelIdeal.main_v0_1) = v1 c
          ∧ r.2.mem ((c.tc : Thread Cert.KernelIdeal.nD Cert.KernelIdeal.τ).loc Cert.KernelIdeal.main_v0_2) = v2 c
          ∧ r.2.mem ((c.tc : Thread Cert.KernelIdeal.nD Cert.KernelIdeal.τ).loc Cert.KernelIdeal.main_v0_3) = v3 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v64) = v0 c
          ∧ r.2.mem ((c.tc : Thread Cert.ReferenceIdeal.nD Cert.ReferenceIdeal.τ).loc Cert.ReferenceIdeal.main_v65) = v1 c
          ∧ r.2.mem ((c.tc : Thread Cert.ReferenceIdeal.nD Cert.ReferenceIdeal.τ).loc Cert.ReferenceIdeal.main_v66) = v2 c
          ∧ r.2.mem ((c.tc : Thread Cert.ReferenceIdeal.nD Cert.ReferenceIdeal.τ).loc Cert.ReferenceIdeal.main_v67) = v3 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    quiescent_Kernel (hKernel := hKernel)
    ∧ quiescent_KernelIdeal (hKernelIdeal := hKernelIdeal)
    ∧ quiescent_KernelIdeal_pre_finite_inputs (hKernelIdeal := hKernelIdeal) (hPre_finite_inputs := hPre_finite_inputs)
    ∧ quiescent_ReferenceIdeal (hReferenceIdeal := hReferenceIdeal)
    ∧ quiescent_ReferenceIdeal_pre_finite_inputs (hReferenceIdeal := hReferenceIdeal) (hPre_finite_inputs := hPre_finite_inputs)
    ∧ preserves_Kernel_KernelIdeal
    ∧ algebraic_KernelIdeal_ReferenceIdeal_pre_finite_inputs (hKernelIdeal := hKernelIdeal) (hReferenceIdeal := hReferenceIdeal) (hPre_finite_inputs := hPre_finite_inputs)
-- ==== Pre_finite_inputs.lean ====
abbrev S100000x128 : Shape := ⟨2, ![100000, 128]⟩
abbrev S4x128 : Shape := ⟨2, ![4, 128]⟩
abbrev S_ : Shape := ⟨0, ![]⟩

class Facts : Prop where
  bcast_S_S4x128 : S_.BroadcastsInDim S4x128 (![] : Fin 0 → Fin S4x128.rank)
  reducesTo_S4x128_S_d0_1 : S4x128.ReducesTo [0, 1] S_
  h_S_ : 0 < S_.numel
  bcast_S_S100000x128 : S_.BroadcastsInDim S100000x128 (![] : Fin 0 → Fin S100000x128.rank)
  reducesTo_S100000x128_S_d0_1 : S100000x128.ReducesTo [0, 1] S_

variable [Facts]

def fn_part1 {F : FTy → Type} [FloatOps F] (main_arg3 : FVec F S100000x128 .f32) (main_v13 : IVec S_ 1) (main_v16 : IVec S100000x128 1) : IVec S_ 1 :=
  let main_c_5 : IVec S_ 1 := constantI S_ 1 1#1
  let main_v17 : IVec S_ 1 := (fun x v => Host.reduce IntOp.andi x v reducesTo_S100000x128_S_d0_1 h_S_) main_v16 main_c_5
  let main_v18 : IVec S_ 1 := andi main_v13 main_v17
  let main_v19 : FVec F S100000x128 .f32 := Host.absf main_arg3
  let main_cst_6 : FVec F S_ .f32 := constant S_ .f32 0x7F800000#32
  let main_v20 : FVec F S100000x128 .f32 := broadcastInDim S100000x128 ![] bcast_S_S100000x128 main_cst_6
  let main_v21 : IVec S100000x128 1 := cmpf .olt main_v19 main_v20
  let main_c_7 : IVec S_ 1 := constantI S_ 1 1#1
  let main_v22 : IVec S_ 1 := (fun x v => Host.reduce IntOp.andi x v reducesTo_S100000x128_S_d0_1 h_S_) main_v21 main_c_7
  let main_v23 : IVec S_ 1 := andi main_v18 main_v22
  main_v23

def fn {F : FTy → Type} [FloatOps F] (main_arg0 : FVec F S100000x128 .f32) (main_arg1 : FVec F S100000x128 .f32) (main_arg2 : FVec F S100000x128 .f32) (main_arg3 : FVec F S100000x128 .f32) (main_arg4 : FVec F S4x128 .f32) (main_arg5 : FVec F S4x128 .f32) : IVec S_ 1 :=
  let main_v0 : FVec F S4x128 .f32 := Host.absf main_arg4
  let main_cst : FVec F S_ .f32 := constant S_ .f32 0x7F800000#32
  let main_v1 : FVec F S4x128 .f32 := broadcastInDim S4x128 ![] bcast_S_S4x128 main_cst
  let main_v2 : IVec S4x128 1 := cmpf .olt main_v0 main_v1
  let main_c : IVec S_ 1 := constantI S_ 1 1#1
  let main_v3 : IVec S_ 1 := (fun x v => Host.reduce IntOp.andi x v reducesTo_S4x128_S_d0_1 h_S_) main_v2 main_c
  let main_v4 : FVec F S100000x128 .f32 := Host.absf main_arg0
  let main_cst_0 : FVec F S_ .f32 := constant S_ .f32 0x7F800000#32
  let main_v5 : FVec F S100000x128 .f32 := broadcastInDim S100000x128 ![] bcast_S_S100000x128 main_cst_0
  let main_v6 : IVec S100000x128 1 := cmpf .olt main_v4 main_v5
  let main_c_1 : IVec S_ 1 := constantI S_ 1 1#1
  let main_v7 : IVec S_ 1 := (fun x v => Host.reduce IntOp.andi x v reducesTo_S100000x128_S_d0_1 h_S_) main_v6 main_c_1
  let main_v8 : IVec S_ 1 := andi main_v3 main_v7
  let main_v9 : FVec F S100000x128 .f32 := Host.absf main_arg1
  let main_cst_2 : FVec F S_ .f32 := constant S_ .f32 0x7F800000#32
  let main_v10 : FVec F S100000x128 .f32 := broadcastInDim S100000x128 ![] bcast_S_S100000x128 main_cst_2
  let main_v11 : IVec S100000x128 1 := cmpf .olt main_v9 main_v10
  let main_c_3 : IVec S_ 1 := constantI S_ 1 1#1
  let main_v12 : IVec S_ 1 := (fun x v => Host.reduce IntOp.andi x v reducesTo_S100000x128_S_d0_1 h_S_) main_v11 main_c_3
  let main_v13 : IVec S_ 1 := andi main_v8 main_v12
  let main_v14 : FVec F S100000x128 .f32 := Host.absf main_arg2
  let main_cst_4 : FVec F S_ .f32 := constant S_ .f32 0x7F800000#32
  let main_v15 : FVec F S100000x128 .f32 := broadcastInDim S100000x128 ![] bcast_S_S100000x128 main_cst_4
  let main_v16 : IVec S100000x128 1 := cmpf .olt main_v14 main_v15
  fn_part1 (F := F) main_arg3 main_v13 main_v16
-- ==== Kernel.lean ====
abbrev S100000x128 : Shape := ⟨2, ![100000, 128]⟩
abbrev S4x128 : Shape := ⟨2, ![4, 128]⟩
abbrev S8x128 : Shape := ⟨2, ![8, 128]⟩
abbrev S10000x128 : Shape := ⟨2, ![10000, 128]⟩
abbrev S8x8x128 : Shape := ⟨3, ![8, 8, 128]⟩
abbrev S1250x8x128 : Shape := ⟨3, ![1250, 8, 128]⟩
abbrev S1x8x128 : Shape := ⟨3, ![1, 8, 128]⟩
abbrev S5000x128 : Shape := ⟨2, ![5000, 128]⟩
abbrev S1x128 : Shape := ⟨2, ![1, 128]⟩

abbrev nBuf : Space → Nat
  | .hbm => 11
  | .vmem => 30
  | .smem => 0
  | _ => 0

abbrev bufTy : (tb : Table) → Fin (tcTables nBuf tb) → BufTy
  | .hbm, ⟨0, _⟩ => ⟨S100000x128, .f32⟩
  | .hbm, ⟨1, _⟩ => ⟨S100000x128, .f32⟩
  | .hbm, ⟨2, _⟩ => ⟨S100000x128, .f32⟩
  | .hbm, ⟨3, _⟩ => ⟨S100000x128, .f32⟩
  | .hbm, ⟨4, _⟩ => ⟨S4x128, .f32⟩
  | .hbm, ⟨5, _⟩ => ⟨S4x128, .f32⟩
  | .hbm, ⟨6, _⟩ => ⟨S8x128, .f32⟩
  | .hbm, ⟨7, _⟩ => ⟨S100000x128, .f32⟩
  | .hbm, ⟨8, _⟩ => ⟨S100000x128, .f32⟩
  | .hbm, ⟨9, _⟩ => ⟨S100000x128, .f32⟩
  | .hbm, ⟨10, _⟩ => ⟨S100000x128, .f32⟩
  | .local _ .vmem, ⟨0, _⟩ => ⟨S10000x128, .f32⟩
  | .local _ .vmem, ⟨1, _⟩ => ⟨S10000x128, .f32⟩
  | .local _ .vmem, ⟨2, _⟩ => ⟨S10000x128, .f32⟩
  | .local _ .vmem, ⟨3, _⟩ => ⟨S10000x128, .f32⟩
  | .local _ .vmem, ⟨4, _⟩ => ⟨S10000x128, .f32⟩
  | .local _ .vmem, ⟨5, _⟩ => ⟨S10000x128, .f32⟩
  | .local _ .vmem, ⟨6, _⟩ => ⟨S10000x128, .f32⟩
  | .local _ .vmem, ⟨7, _⟩ => ⟨S10000x128, .f32⟩
  | .local _ .vmem, ⟨8, _⟩ => ⟨S8x128, .f32⟩
  | .local _ .vmem, ⟨9, _⟩ => ⟨S8x8x128, .f32⟩
  | .local _ .vmem, ⟨10, _⟩ => ⟨S8x128, .f32⟩
  | .local _ .vmem, ⟨11, _⟩ => ⟨S4x128, .f32⟩
  | .local _ .vmem, ⟨12, _⟩ => ⟨S4x128, .f32⟩
  | .local _ .vmem, ⟨13, _⟩ => ⟨S5000x128, .f32⟩
  | .local _ .vmem, ⟨14, _⟩ => ⟨S5000x128, .f32⟩
  | .local _ .vmem, ⟨15, _⟩ => ⟨S5000x128, .f32⟩
  | .local _ .vmem, ⟨16, _⟩ => ⟨S5000x128, .f32⟩
  | .local _ .vmem, ⟨17, _⟩ => ⟨S5000x128, .f32⟩
  | .local _ .vmem, ⟨18, _⟩ => ⟨S5000x128, .f32⟩
  | .local _ .vmem, ⟨19, _⟩ => ⟨S5000x128, .f32⟩
  | .local _ .vmem, ⟨20, _⟩ => ⟨S5000x128, .f32⟩
  | .local _ .vmem, ⟨21, _⟩ => ⟨S5000x128, .f32⟩
  | .local _ .vmem, ⟨22, _⟩ => ⟨S5000x128, .f32⟩
  | .local _ .vmem, ⟨23, _⟩ => ⟨S5000x128, .f32⟩
  | .local _ .vmem, ⟨24, _⟩ => ⟨S5000x128, .f32⟩
  | .local _ .vmem, ⟨25, _⟩ => ⟨S5000x128, .f32⟩
  | .local _ .vmem, ⟨26, _⟩ => ⟨S5000x128, .f32⟩
  | .local _ .vmem, ⟨27, _⟩ => ⟨S5000x128, .f32⟩
  | .local _ .vmem, ⟨28, _⟩ => ⟨S5000x128, .f32⟩
  | .local _ .vmem, ⟨29, _⟩ => ⟨S8x128, .f32⟩
  | _, _ => ⟨S100000x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | _, _ => false

abbrev semScoped : Fin 0 → Bool
  | ⟨_, h⟩ => absurd h (Nat.not_lt_zero _)

abbrev dmaSemScoped : Fin 28 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | _ => false

abbrev sig : RefSig :=
  ofTc nBuf bufTy 0 28 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_call0_v0 : Ref sig .tc := ⟨.hbm, 6, rfl⟩
abbrev main_v0_0 : Ref sig .tc := ⟨.hbm, 7, rfl⟩
abbrev main_v0_1 : Ref sig .tc := ⟨.hbm, 8, rfl⟩
abbrev main_v0_2 : Ref sig .tc := ⟨.hbm, 9, rfl⟩
abbrev main_v0_3 : Ref sig .tc := ⟨.hbm, 10, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_scratch0 : Ref sig .tc := ⟨.vmem, 9, rfl⟩
abbrev cc1_stg0_0 : Ref sig .tc := ⟨.vmem, 10, rfl⟩
abbrev cc1_stg1_0 : Ref sig .tc := ⟨.vmem, 11, rfl⟩
abbrev cc1_stg2_0 : Ref sig .tc := ⟨.vmem, 12, rfl⟩
abbrev cc1_stg3_0 : Ref sig .tc := ⟨.vmem, 13, rfl⟩
abbrev cc1_stg3_1 : Ref sig .tc := ⟨.vmem, 14, rfl⟩
abbrev cc1_stg4_0 : Ref sig .tc := ⟨.vmem, 15, rfl⟩
abbrev cc1_stg4_1 : Ref sig .tc := ⟨.vmem, 16, rfl⟩
abbrev cc1_stg5_0 : Ref sig .tc := ⟨.vmem, 17, rfl⟩
abbrev cc1_stg5_1 : Ref sig .tc := ⟨.vmem, 18, rfl⟩
abbrev cc1_stg6_0 : Ref sig .tc := ⟨.vmem, 19, rfl⟩
abbrev cc1_stg6_1 : Ref sig .tc := ⟨.vmem, 20, rfl⟩
abbrev cc1_stg7_0 : Ref sig .tc := ⟨.vmem, 21, rfl⟩
abbrev cc1_stg7_1 : Ref sig .tc := ⟨.vmem, 22, rfl⟩
abbrev cc1_stg8_0 : Ref sig .tc := ⟨.vmem, 23, rfl⟩
abbrev cc1_stg8_1 : Ref sig .tc := ⟨.vmem, 24, rfl⟩
abbrev cc1_stg9_0 : Ref sig .tc := ⟨.vmem, 25, rfl⟩
abbrev cc1_stg9_1 : Ref sig .tc := ⟨.vmem, 26, rfl⟩
abbrev cc1_stg10_0 : Ref sig .tc := ⟨.vmem, 27, rfl⟩
abbrev cc1_stg10_1 : Ref sig .tc := ⟨.vmem, 28, rfl⟩
abbrev cc1_scratch0 : Ref sig .tc := ⟨.vmem, 29, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc1_sem0_0 : DmaSem sig := 9
abbrev cc1_sem1_0 : DmaSem sig := 10
abbrev cc1_sem2_0 : DmaSem sig := 11
abbrev cc1_sem3_0 : DmaSem sig := 12
abbrev cc1_sem3_1 : DmaSem sig := 13
abbrev cc1_sem4_0 : DmaSem sig := 14
abbrev cc1_sem4_1 : DmaSem sig := 15
abbrev cc1_sem5_0 : DmaSem sig := 16
abbrev cc1_sem5_1 : DmaSem sig := 17
abbrev cc1_sem6_0 : DmaSem sig := 18
abbrev cc1_sem6_1 : DmaSem sig := 19
abbrev cc1_sem7_0 : DmaSem sig := 20
abbrev cc1_sem7_1 : DmaSem sig := 21
abbrev cc1_sem8_0 : DmaSem sig := 22
abbrev cc1_sem8_1 : DmaSem sig := 23
abbrev cc1_sem9_0 : DmaSem sig := 24
abbrev cc1_sem9_1 : DmaSem sig := 25
abbrev cc1_sem10_0 : DmaSem sig := 26
abbrev cc1_sem10_1 : DmaSem sig := 27

abbrev nD : Nat := 1
abbrev τ : Topo := Topo.v7x

variable {F : FTy → Type} [FloatOps F]

abbrev grid0 : Pipeline.Grid := ⟨1, ![10], ![false]⟩

def k0_cond2 (i : grid0.Coords) : BitVec 1 :=
  let arg0 : BitVec 32 := BitVec.ofNat 32 (i 0).val
  let c9_i32 : BitVec 32 := 9#32
  let v37 : BitVec 1 := Scalar.cmpi .eq arg0 c9_i32
  let v38 : BitVec 32 := Scalar.extui v37
  let c0_i32_21 : BitVec 32 := 0#32
  let v39 : BitVec 1 := Scalar.cmpi .ne v38 c0_i32_21
  v39

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S10000x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S10000x128 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S10000x128 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S10000x128 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 1 → Memref sig .tc .vmem S8x128 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev grid1 : Pipeline.Grid := ⟨1, ![20], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_1 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_2 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_3 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_4 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_5 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_6 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_7 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_8 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_9 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_10 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 1 → Memref sig .tc .vmem S8x128 .f32 := fun | 0 => Memref.whole cc1_stg0_0 | ⟨_ + 1, h⟩ => absurd h (Nat.not_lt.2 (Nat.le_add_left _ _))
abbrev sem1_0 : Fin 1 → DmaSem sig := fun | 0 => cc1_sem0_0 | ⟨_ + 1, h⟩ => absurd h (Nat.not_lt.2 (Nat.le_add_left _ _))
abbrev reads1_0 : Fin grid1.rank → Bool := ![false]

abbrev stage1_1 : Fin 1 → Memref sig .tc .vmem S4x128 .f32 := fun | 0 => Memref.whole cc1_stg1_0 | ⟨_ + 1, h⟩ => absurd h (Nat.not_lt.2 (Nat.le_add_left _ _))
abbrev sem1_1 : Fin 1 → DmaSem sig := fun | 0 => cc1_sem1_0 | ⟨_ + 1, h⟩ => absurd h (Nat.not_lt.2 (Nat.le_add_left _ _))
abbrev reads1_1 : Fin grid1.rank → Bool := ![false]

abbrev stage1_2 : Fin 1 → Memref sig .tc .vmem S4x128 .f32 := fun | 0 => Memref.whole cc1_stg2_0 | ⟨_ + 1, h⟩ => absurd h (Nat.not_lt.2 (Nat.le_add_left _ _))
abbrev sem1_2 : Fin 1 → DmaSem sig := fun | 0 => cc1_sem2_0 | ⟨_ + 1, h⟩ => absurd h (Nat.not_lt.2 (Nat.le_add_left _ _))
abbrev reads1_2 : Fin grid1.rank → Bool := ![false]

abbrev stage1_3 : Fin 2 → Memref sig .tc .vmem S5000x128 .f32 := fun | 0 => Memref.whole cc1_stg3_0 | 1 => Memref.whole cc1_stg3_1 | ⟨_ + 2, h⟩ => absurd h (Nat.not_lt.2 (Nat.le_add_left _ _))
abbrev sem1_3 : Fin 2 → DmaSem sig := fun | 0 => cc1_sem3_0 | 1 => cc1_sem3_1 | ⟨_ + 2, h⟩ => absurd h (Nat.not_lt.2 (Nat.le_add_left _ _))
abbrev reads1_3 : Fin grid1.rank → Bool := ![true]

abbrev stage1_4 : Fin 2 → Memref sig .tc .vmem S5000x128 .f32 := fun | 0 => Memref.whole cc1_stg4_0 | 1 => Memref.whole cc1_stg4_1 | ⟨_ + 2, h⟩ => absurd h (Nat.not_lt.2 (Nat.le_add_left _ _))
abbrev sem1_4 : Fin 2 → DmaSem sig := fun | 0 => cc1_sem4_0 | 1 => cc1_sem4_1 | ⟨_ + 2, h⟩ => absurd h (Nat.not_lt.2 (Nat.le_add_left _ _))
abbrev reads1_4 : Fin grid1.rank → Bool := ![true]

abbrev stage1_5 : Fin 2 → Memref sig .tc .vmem S5000x128 .f32 := fun | 0 => Memref.whole cc1_stg5_0 | 1 => Memref.whole cc1_stg5_1 | ⟨_ + 2, h⟩ => absurd h (Nat.not_lt.2 (Nat.le_add_left _ _))
abbrev sem1_5 : Fin 2 → DmaSem sig := fun | 0 => cc1_sem5_0 | 1 => cc1_sem5_1 | ⟨_ + 2, h⟩ => absurd h (Nat.not_lt.2 (Nat.le_add_left _ _))
abbrev reads1_5 : Fin grid1.rank → Bool := ![true]

abbrev stage1_6 : Fin 2 → Memref sig .tc .vmem S5000x128 .f32 := fun | 0 => Memref.whole cc1_stg6_0 | 1 => Memref.whole cc1_stg6_1 | ⟨_ + 2, h⟩ => absurd h (Nat.not_lt.2 (Nat.le_add_left _ _))
abbrev sem1_6 : Fin 2 → DmaSem sig := fun | 0 => cc1_sem6_0 | 1 => cc1_sem6_1 | ⟨_ + 2, h⟩ => absurd h (Nat.not_lt.2 (Nat.le_add_left _ _))
abbrev reads1_6 : Fin grid1.rank → Bool := ![true]

abbrev stage1_7 : Fin 2 → Memref sig .tc .vmem S5000x128 .f32 := fun | 0 => Memref.whole cc1_stg7_0 | 1 => Memref.whole cc1_stg7_1 | ⟨_ + 2, h⟩ => absurd h (Nat.not_lt.2 (Nat.le_add_left _ _))
abbrev sem1_7 : Fin 2 → DmaSem sig := fun | 0 => cc1_sem7_0 | 1 => cc1_sem7_1 | ⟨_ + 2, h⟩ => absurd h (Nat.not_lt.2 (Nat.le_add_left _ _))
abbrev reads1_7 : Fin grid1.rank → Bool := ![true]

abbrev stage1_8 : Fin 2 → Memref sig .tc .vmem S5000x128 .f32 := fun | 0 => Memref.whole cc1_stg8_0 | 1 => Memref.whole cc1_stg8_1 | ⟨_ + 2, h⟩ => absurd h (Nat.not_lt.2 (Nat.le_add_left _ _))
abbrev sem1_8 : Fin 2 → DmaSem sig := fun | 0 => cc1_sem8_0 | 1 => cc1_sem8_1 | ⟨_ + 2, h⟩ => absurd h (Nat.not_lt.2 (Nat.le_add_left _ _))
abbrev reads1_8 : Fin grid1.rank → Bool := ![true]

abbrev stage1_9 : Fin 2 → Memref sig .tc .vmem S5000x128 .f32 := fun | 0 => Memref.whole cc1_stg9_0 | 1 => Memref.whole cc1_stg9_1 | ⟨_ + 2, h⟩ => absurd h (Nat.not_lt.2 (Nat.le_add_left _ _))
abbrev sem1_9 : Fin 2 → DmaSem sig := fun | 0 => cc1_sem9_0 | 1 => cc1_sem9_1 | ⟨_ + 2, h⟩ => absurd h (Nat.not_lt.2 (Nat.le_add_left _ _))
abbrev reads1_9 : Fin grid1.rank → Bool := ![true]

abbrev stage1_10 : Fin 2 → Memref sig .tc .vmem S5000x128 .f32 := fun | 0 => Memref.whole cc1_stg10_0 | 1 => Memref.whole cc1_stg10_1 | ⟨_ + 2, h⟩ => absurd h (Nat.not_lt.2 (Nat.le_add_left _ _))
abbrev sem1_10 : Fin 2 → DmaSem sig := fun | 0 => cc1_sem10_0 | 1 => cc1_sem10_1 | ⟨_ + 2, h⟩ => absurd h (Nat.not_lt.2 (Nat.le_add_left _ _))
abbrev reads1_10 : Fin grid1.rank → Bool := ![true]
-- ==== KernelIdeal.lean ====
variable {F : FTy → Type} [FloatOps F] [Named F]
def κ : String → Option EReal := fun
  | "inv_n" => some ((100000⁻¹ : ℝ) : EReal)
  | _ => none
-- ==== ReferenceIdeal.lean ====
abbrev S100000x128 : Shape := ⟨2, ![100000, 128]⟩
abbrev S4x128 : Shape := ⟨2, ![4, 128]⟩
abbrev S400000x128 : Shape := ⟨2, ![400000, 128]⟩
abbrev S_ : Shape := ⟨0, ![]⟩
abbrev S100000 : Shape := ⟨1, ![100000]⟩
abbrev S400000 : Shape := ⟨1, ![400000]⟩
abbrev S4 : Shape := ⟨1, ![4]⟩
abbrev S400000x1 : Shape := ⟨2, ![400000, 1]⟩
abbrev S4x1 : Shape := ⟨2, ![4, 1]⟩

abbrev nBuf : Space → Nat
  | .hbm => 95
  | .vmem => 0
  | .smem => 0
  | _ => 0

abbrev bufTy : (tb : Table) → Fin (tcTables nBuf tb) → BufTy
  | .hbm, ⟨0, _⟩ => ⟨S100000x128, .f32⟩
  | .hbm, ⟨1, _⟩ => ⟨S100000x128, .f32⟩
  | .hbm, ⟨2, _⟩ => ⟨S100000x128, .f32⟩
  | .hbm, ⟨3, _⟩ => ⟨S100000x128, .f32⟩
  | .hbm, ⟨4, _⟩ => ⟨S4x128, .f32⟩
  | .hbm, ⟨5, _⟩ => ⟨S4x128, .f32⟩
  | .hbm, ⟨6, _⟩ => ⟨S400000x128, .f32⟩
  | .hbm, ⟨7, _⟩ => ⟨S_, .i32⟩
  | .hbm, ⟨8, _⟩ => ⟨S100000, .i32⟩
  | .hbm, ⟨9, _⟩ => ⟨S_, .i32⟩
  | .hbm, ⟨10, _⟩ => ⟨S100000, .i32⟩
  | .hbm, ⟨11, _⟩ => ⟨S_, .i32⟩
  | .hbm, ⟨12, _⟩ => ⟨S100000, .i32⟩
  | .hbm, ⟨13, _⟩ => ⟨S_, .i32⟩
  | .hbm, ⟨14, _⟩ => ⟨S100000, .i32⟩
  | .hbm, ⟨15, _⟩ => ⟨S400000, .i32⟩
  | .hbm, ⟨16, _⟩ => ⟨S_, .f32⟩
  | .hbm, ⟨17, _⟩ => ⟨S400000, .f32⟩
  | .hbm, ⟨18, _⟩ => ⟨S_, .f32⟩
  | .hbm, ⟨19, _⟩ => ⟨S4, .f32⟩
  | .hbm, ⟨20, _⟩ => ⟨S400000x1, .i32⟩
  | .hbm, ⟨21, _⟩ => ⟨S4, .f32⟩
  | .hbm, ⟨22, _⟩ => ⟨S_, .f32⟩
  | .hbm, ⟨23, _⟩ => ⟨S4, .f32⟩
  | .hbm, ⟨24, _⟩ => ⟨S4, .f32⟩
  | .hbm, ⟨25, _⟩ => ⟨S_, .f32⟩
  | .hbm, ⟨26, _⟩ => ⟨S4x128, .f32⟩
  | .hbm, ⟨27, _⟩ => ⟨S400000x1, .i32⟩
  | .hbm, ⟨28, _⟩ => ⟨S4x128, .f32⟩
  | .hbm, ⟨29, _⟩ => ⟨S4x1, .f32⟩
  | .hbm, ⟨30, _⟩ => ⟨S4x128, .f32⟩
  | .hbm, ⟨31, _⟩ => ⟨S4x128, .f32⟩
  | .hbm, ⟨32, _⟩ => ⟨S400000x128, .f32⟩
  | .hbm, ⟨33, _⟩ => ⟨S_, .f32⟩
  | .hbm, ⟨34, _⟩ => ⟨S4x128, .f32⟩
  | .hbm, ⟨35, _⟩ => ⟨S400000x1, .i32⟩
  | .hbm, ⟨36, _⟩ => ⟨S4x128, .f32⟩
  | .hbm, ⟨37, _⟩ => ⟨S4x1, .f32⟩
  | .hbm, ⟨38, _⟩ => ⟨S4x128, .f32⟩
  | .hbm, ⟨39, _⟩ => ⟨S4x128, .f32⟩
  | .hbm, ⟨40, _⟩ => ⟨S4x128, .f32⟩
  | .hbm, ⟨41, _⟩ => ⟨S4x128, .f32⟩
  | .hbm, ⟨42, _⟩ => ⟨S_, .f32⟩
  | .hbm, ⟨43, _⟩ => ⟨S_, .f32⟩
  | .hbm, ⟨44, _⟩ => ⟨S_, .f32⟩
  | .hbm, ⟨45, _⟩ => ⟨S4x128, .f32⟩
  | .hbm, ⟨46, _⟩ => ⟨S4x128, .f32⟩
  | .hbm, ⟨47, _⟩ => ⟨S4x128, .f32⟩
  | .hbm, ⟨48, _⟩ => ⟨S_, .f32⟩
  | .hbm, ⟨49, _⟩ => ⟨S4x128, .f32⟩
  | .hbm, ⟨50, _⟩ => ⟨S4x128, .f32⟩
  | .hbm, ⟨51, _⟩ => ⟨S_, .i32⟩
  | .hbm, ⟨52, _⟩ => ⟨S400000, .i32⟩
  | .hbm, ⟨53, _⟩ => ⟨S400000, .i1⟩
  | .hbm, ⟨54, _⟩ => ⟨S_, .i32⟩
  | .hbm, ⟨55, _⟩ => ⟨S400000, .i32⟩
  | .hbm, ⟨56, _⟩ => ⟨S400000, .i32⟩
  | .hbm, ⟨57, _⟩ => ⟨S400000, .i32⟩
  | .hbm, ⟨58, _⟩ => ⟨S400000x1, .i32⟩
  | .hbm, ⟨59, _⟩ => ⟨S400000x128, .f32⟩
  | .hbm, ⟨60, _⟩ => ⟨S400000x128, .f32⟩
  | .hbm, ⟨61, _⟩ => ⟨S_, .i32⟩
  | .hbm, ⟨62, _⟩ => ⟨S400000, .i32⟩
  | .hbm, ⟨63, _⟩ => ⟨S400000, .i1⟩
  | .hbm, ⟨64, _⟩ => ⟨S_, .i32⟩
  | .hbm, ⟨65, _⟩ => ⟨S400000, .i32⟩
  | .hbm, ⟨66, _⟩ => ⟨S400000, .i32⟩
  | .hbm, ⟨67, _⟩ => ⟨S400000, .i32⟩
  | .hbm, ⟨68, _⟩ => ⟨S400000x1, .i32⟩
  | .hbm, ⟨69, _⟩ => ⟨S400000x128, .f32⟩
  | .hbm, ⟨70, _⟩ => ⟨S400000x128, .f32⟩
  | .hbm, ⟨71, _⟩ => ⟨S_, .i32⟩
  | .hbm, ⟨72, _⟩ => ⟨S400000, .i32⟩
  | .hbm, ⟨73, _⟩ => ⟨S400000, .i1⟩
  | .hbm, ⟨74, _⟩ => ⟨S_, .i32⟩
  | .hbm, ⟨75, _⟩ => ⟨S400000, .i32⟩
  | .hbm, ⟨76, _⟩ => ⟨S400000, .i32⟩
  | .hbm, ⟨77, _⟩ => ⟨S400000, .i32⟩
  | .hbm, ⟨78, _⟩ => ⟨S400000x1, .i32⟩
  | .hbm, ⟨79, _⟩ => ⟨S400000x128, .f32⟩
  | .hbm, ⟨80, _⟩ => ⟨S400000x128, .f32⟩
  | .hbm, ⟨81, _⟩ => ⟨S_, .i32⟩
  | .hbm, ⟨82, _⟩ => ⟨S400000, .i32⟩
  | .hbm, ⟨83, _⟩ => ⟨S400000, .i1⟩
  | .hbm, ⟨84, _⟩ => ⟨S_, .i32⟩
  | .hbm, ⟨85, _⟩ => ⟨S400000, .i32⟩
  | .hbm, ⟨86, _⟩ => ⟨S400000, .i32⟩
  | .hbm, ⟨87, _⟩ => ⟨S400000, .i32⟩
  | .hbm, ⟨88, _⟩ => ⟨S400000x1, .i32⟩
  | .hbm, ⟨89, _⟩ => ⟨S400000x128, .f32⟩
  | .hbm, ⟨90, _⟩ => ⟨S400000x128, .f32⟩
  | .hbm, ⟨91, _⟩ => ⟨S100000x128, .f32⟩
  | .hbm, ⟨92, _⟩ => ⟨S100000x128, .f32⟩
  | .hbm, ⟨93, _⟩ => ⟨S100000x128, .f32⟩
  | .hbm, ⟨94, _⟩ => ⟨S100000x128, .f32⟩
  | _, _ => ⟨S100000x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_c : Ref sig .tc := ⟨.hbm, 7, rfl⟩
abbrev main_v1 : Ref sig .tc := ⟨.hbm, 8, rfl⟩
abbrev main_c_0 : Ref sig .tc := ⟨.hbm, 9, rfl⟩
abbrev main_v2 : Ref sig .tc := ⟨.hbm, 10, rfl⟩
abbrev main_c_1 : Ref sig .tc := ⟨.hbm, 11, rfl⟩
abbrev main_v3 : Ref sig .tc := ⟨.hbm, 12, rfl⟩
abbrev main_c_2 : Ref sig .tc := ⟨.hbm, 13, rfl⟩
abbrev main_v4 : Ref sig .tc := ⟨.hbm, 14, rfl⟩
abbrev main_v5 : Ref sig .tc := ⟨.hbm, 15, rfl⟩
abbrev main_cst : Ref sig .tc := ⟨.hbm, 16, rfl⟩
abbrev main_v6 : Ref sig .tc := ⟨.hbm, 17, rfl⟩
abbrev main_cst_3 : Ref sig .tc := ⟨.hbm, 18, rfl⟩
abbrev main_v7 : Ref sig .tc := ⟨.hbm, 19, rfl⟩
abbrev main_v8 : Ref sig .tc := ⟨.hbm, 20, rfl⟩
abbrev main_v9 : Ref sig .tc := ⟨.hbm, 21, rfl⟩
abbrev main_cst_4 : Ref sig .tc := ⟨.hbm, 22, rfl⟩
abbrev main_v10 : Ref sig .tc := ⟨.hbm, 23, rfl⟩
abbrev main_v11 : Ref sig .tc := ⟨.hbm, 24, rfl⟩
abbrev main_cst_5 : Ref sig .tc := ⟨.hbm, 25, rfl⟩
abbrev main_v12 : Ref sig .tc := ⟨.hbm, 26, rfl⟩
abbrev main_v13 : Ref sig .tc := ⟨.hbm, 27, rfl⟩
abbrev main_v14 : Ref sig .tc := ⟨.hbm, 28, rfl⟩
abbrev main_v15 : Ref sig .tc := ⟨.hbm, 29, rfl⟩
abbrev main_v16 : Ref sig .tc := ⟨.hbm, 30, rfl⟩
abbrev main_v17 : Ref sig .tc := ⟨.hbm, 31, rfl⟩
abbrev main_v18 : Ref sig .tc := ⟨.hbm, 32, rfl⟩
abbrev main_cst_6 : Ref sig .tc := ⟨.hbm, 33, rfl⟩
abbrev main_v19 : Ref sig .tc := ⟨.hbm, 34, rfl⟩
abbrev main_v20 : Ref sig .tc := ⟨.hbm, 35, rfl⟩
abbrev main_v21 : Ref sig .tc := ⟨.hbm, 36, rfl⟩
abbrev main_v22 : Ref sig .tc := ⟨.hbm, 37, rfl⟩
abbrev main_v23 : Ref sig .tc := ⟨.hbm, 38, rfl⟩
abbrev main_v24 : Ref sig .tc := ⟨.hbm, 39, rfl⟩
abbrev main_v25 : Ref sig .tc := ⟨.hbm, 40, rfl⟩
abbrev main_v26 : Ref sig .tc := ⟨.hbm, 41, rfl⟩
abbrev main_cst_7 : Ref sig .tc := ⟨.hbm, 42, rfl⟩
abbrev main_cst_8 : Ref sig .tc := ⟨.hbm, 43, rfl⟩
abbrev main_v27 : Ref sig .tc := ⟨.hbm, 44, rfl⟩
abbrev main_call0_v0 : Ref sig .tc := ⟨.hbm, 45, rfl⟩
abbrev main_v28 : Ref sig .tc := ⟨.hbm, 46, rfl⟩
abbrev main_v29 : Ref sig .tc := ⟨.hbm, 47, rfl⟩
abbrev main_cst_9 : Ref sig .tc := ⟨.hbm, 48, rfl⟩
abbrev main_v30 : Ref sig .tc := ⟨.hbm, 49, rfl⟩
abbrev main_v31 : Ref sig .tc := ⟨.hbm, 50, rfl⟩
abbrev main_c_10 : Ref sig .tc := ⟨.hbm, 51, rfl⟩
abbrev main_v32 : Ref sig .tc := ⟨.hbm, 52, rfl⟩
abbrev main_v33 : Ref sig .tc := ⟨.hbm, 53, rfl⟩
abbrev main_c_11 : Ref sig .tc := ⟨.hbm, 54, rfl⟩
abbrev main_v34 : Ref sig .tc := ⟨.hbm, 55, rfl⟩
abbrev main_v35 : Ref sig .tc := ⟨.hbm, 56, rfl⟩
abbrev main_v36 : Ref sig .tc := ⟨.hbm, 57, rfl⟩
abbrev main_v37 : Ref sig .tc := ⟨.hbm, 58, rfl⟩
abbrev main_v38 : Ref sig .tc := ⟨.hbm, 59, rfl⟩
abbrev main_v39 : Ref sig .tc := ⟨.hbm, 60, rfl⟩
abbrev main_c_12 : Ref sig .tc := ⟨.hbm, 61, rfl⟩
abbrev main_v40 : Ref sig .tc := ⟨.hbm, 62, rfl⟩
abbrev main_v41 : Ref sig .tc := ⟨.hbm, 63, rfl⟩
abbrev main_c_13 : Ref sig .tc := ⟨.hbm, 64, rfl⟩
abbrev main_v42 : Ref sig .tc := ⟨.hbm, 65, rfl⟩
abbrev main_v43 : Ref sig .tc := ⟨.hbm, 66, rfl⟩
abbrev main_v44 : Ref sig .tc := ⟨.hbm, 67, rfl⟩
abbrev main_v45 : Ref sig .tc := ⟨.hbm, 68, rfl⟩
abbrev main_v46 : Ref sig .tc := ⟨.hbm, 69, rfl⟩
abbrev main_v47 : Ref sig .tc := ⟨.hbm, 70, rfl⟩
abbrev main_c_14 : Ref sig .tc := ⟨.hbm, 71, rfl⟩
abbrev main_v48 : Ref sig .tc := ⟨.hbm, 72, rfl⟩
abbrev main_v49 : Ref sig .tc := ⟨.hbm, 73, rfl⟩
abbrev main_c_15 : Ref sig .tc := ⟨.hbm, 74, rfl⟩
abbrev main_v50 : Ref sig .tc := ⟨.hbm, 75, rfl⟩
abbrev main_v51 : Ref sig .tc := ⟨.hbm, 76, rfl⟩
abbrev main_v52 : Ref sig .tc := ⟨.hbm, 77, rfl⟩
abbrev main_v53 : Ref sig .tc := ⟨.hbm, 78, rfl⟩
abbrev main_v54 : Ref sig .tc := ⟨.hbm, 79, rfl⟩
abbrev main_v55 : Ref sig .tc := ⟨.hbm, 80, rfl⟩
abbrev main_c_16 : Ref sig .tc := ⟨.hbm, 81, rfl⟩
abbrev main_v56 : Ref sig .tc := ⟨.hbm, 82, rfl⟩
abbrev main_v57 : Ref sig .tc := ⟨.hbm, 83, rfl⟩
abbrev main_c_17 : Ref sig .tc := ⟨.hbm, 84, rfl⟩
abbrev main_v58 : Ref sig .tc := ⟨.hbm, 85, rfl⟩
abbrev main_v59 : Ref sig .tc := ⟨.hbm, 86, rfl⟩
abbrev main_v60 : Ref sig .tc := ⟨.hbm, 87, rfl⟩
abbrev main_v61 : Ref sig .tc := ⟨.hbm, 88, rfl⟩
abbrev main_v62 : Ref sig .tc := ⟨.hbm, 89, rfl⟩
abbrev main_v63 : Ref sig .tc := ⟨.hbm, 90, rfl⟩
abbrev main_v64 : Ref sig .tc := ⟨.hbm, 91, rfl⟩
abbrev main_v65 : Ref sig .tc := ⟨.hbm, 92, rfl⟩
abbrev main_v66 : Ref sig .tc := ⟨.hbm, 93, rfl⟩
abbrev main_v67 : Ref sig .tc := ⟨.hbm, 94, rfl⟩

abbrev nD : Nat := 1
abbrev τ : Topo := Topo.v7x

variable {F : FTy → Type} [FloatOps F]
-- ==== Proof.KI.Stats.lean ====
/- The first call, one grid point at a time: what its body leaves in the accumulator and in the table of sums, in the
   three positions a point can be in (first, middle, last). Stated over any float reading. -/
module

public import proofs.«01_k».proof.Proof.Gen.KernelIdeal.Launch
public import proofs.«01_k».proof.Proof.Gen.KernelIdeal.Skeleton
public import proofs.«01_k».proof.Proof.Gen.KernelIdeal.Points
public import Idealize.ShloMosaic.Lib.Pipeline.FrameBody
public import Idealize.ShloMosaic.Lib.Ring
public import Idealize.ShloMosaic.Lib.Tactic
public import Idealize.ShloMosaic.Lib.WordCmp
public import Idealize.ShloMosaic.Lib.VecWindow
public import Idealize.ShloMosaic.Lib.WritesUnit

@[expose] public section

set_option maxRecDepth 16384

noncomputable section

namespace Cert.KernelIdeal.Run

open Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F] [Named F]

local notation "𝕄" => MT nD τ sig Unit (Elt F) ℕ (UR sig nD τ) ℕ

/-! ## A buffer's ownership from what it reads as -/

/-- A memref's buffer held at contents that read as `x` is the memref owned at `x` (spelled out). -/
theorem owns_of_reads {sp : Space} {s : Shape} {e : EltTy} (c : Dev nD) (r : Memref sig .tc sp s e)
    {f : r.view.ty.Contents (Elt F)} {x : s.Idx → Elt F e} (h : r.view.read (Elt F) f = x) :
    (iprop(r.view.loc (c : Thread nD τ) ↦[r.view.set]{fullShare} f) : sProp 𝕄)
      ⊢ iprop(∃ g, ⌜r.view.read (Elt F) g = x⌝ ∗ r.view.loc (c : Thread nD τ) ↦[r.view.set]{fullShare} g) := by
  iintro H
  iexists f
  isplitr
  · ipureintro; exact h
  iexact H

/-! ## The values -/

/-- The accumulator after a point: the point's four blocks added to what it held. -/
def accStep (x0 x1 x2 x3 : Vec F S10000x128 .f32) (s : Vec F S8x8x128 .f32) : Vec F S8x8x128 .f32 :=
  k0_pay1 (k0_pay4 x0 x1 x2 x3 s)

/-! ## Which point is which -/

/-- The body's first test: is this the first point? -/
abbrev atStart (i : grid0.Coords) : Prop :=
  (Scalar.cmpi .ne (Scalar.extui (Scalar.cmpi .eq (BitVec.ofNat 32 (i 0).val) 0#32)) 0#32) = 1#1
/-- The body's second test: is this the last point? -/
abbrev atEnd (i : grid0.Coords) : Prop := k0_cond2 i = 1#1

theorem atStart_iff (t : Fin grid0.N) : atStart (grid0.coords t) ↔ t.val = 0 := by
  have ht : t.val < 10 := Nat.lt_of_lt_of_eq t.isLt N_0
  have e0 : (grid0.coords t 0).val = t.val / 1 % 10 := Pipeline.Grid.coords_val t 0 (by decide) rfl
  rw [show t.val = 0 ↔ t.val % 10 = 0 by omega]
  simp only [atStart, e0]
  word_cmp

theorem atEnd_iff (t : Fin grid0.N) : atEnd (grid0.coords t) ↔ t.val = 9 := by
  have ht : t.val < 10 := Nat.lt_of_lt_of_eq t.isLt N_0
  have e0 : (grid0.coords t 0).val = t.val / 1 % 10 := Pipeline.Grid.coords_val t 0 (by decide) rfl
  rw [show t.val = 9 ↔ t.val % 10 = 9 by omega]
  simp only [atEnd, k0_cond2, e0]
  word_cmp

/-! ## The body -/

section Body
variable (c : Dev nD) (i : grid0.Coords)
  (arg1 : Memref sig .tc .vmem S10000x128 .f32) (harg1 : arg1.IsWhole)
  (arg2 : Memref sig .tc .vmem S10000x128 .f32) (harg2 : arg2.IsWhole)
  (arg3 : Memref sig .tc .vmem S10000x128 .f32) (harg3 : arg3.IsWhole)
  (arg4 : Memref sig .tc .vmem S10000x128 .f32) (harg4 : arg4.IsWhole)
  (arg5 : Memref sig .tc .vmem S8x128 .f32) (harg5 : arg5.IsWhole)
  (arg6 : Memref sig .tc .vmem S8x8x128 .f32) (harg6 : arg6.IsWhole)
  (x0 x1 x2 x3 : Vec F S10000x128 .f32)

/-- The four input blocks held at their contents. -/
abbrev held0 : sProp 𝕄 :=
  iprop(owns (c : Thread nD τ) arg1 fullShare x0 ∗ owns (c : Thread nD τ) arg2 fullShare x1
    ∗ owns (c : Thread nD τ) arg3 fullShare x2 ∗ owns (c : Thread nD τ) arg4 fullShare x3)

set_option maxHeartbeats 1000000 in
/-- The first point: the accumulator starts from zero; the table is left alone. -/
theorem body0_start (h0 : atStart i) (h1 : ¬atEnd i) (y : Vec F S8x128 .f32) (E : Set ℕ) (K : PUnit → sProp 𝕄) :
    iprop(held0 c arg1 arg2 arg3 arg4 x0 x1 x2 x3 ∗ owns (c : Thread nD τ) arg5 fullShare y ∗ (∃ d, owns (c : Thread nD τ) arg6 fullShare d)
        ∗ (iprop(held0 c arg1 arg2 arg3 arg4 x0 x1 x2 x3 ∗ owns (c : Thread nD τ) arg5 fullShare y
            ∗ owns (c : Thread nD τ) arg6 fullShare (accStep x0 x1 x2 x3 k0_pay3)) -∗ K ⟨⟩))
      ⊢ wp frame (wpE (defs₀ (F := F)) Variants.none c none) E
          (cc0__stats_body i arg1 harg1 arg2 harg2 arg3 harg3 arg4 harg4 arg5 harg5 arg6 harg6) K := by
  simp only [cc0__stats_body_eq_skeleton]; unfold cc0__stats_body_skel
  simp only [k0_part1_eq_skeleton]
  unfold held0 owns
  iintro ⟨⟨⟨%f0, %e0, H0⟩, ⟨%f1, %e1, H1⟩, ⟨%f2, %e2, H2⟩, ⟨%f3, %e3, H3⟩⟩, ⟨%f4, %e4, H4⟩, ⟨%d, %f5, -, H5⟩, Hk⟩
  obtain rfl := harg1.eq_unread e0; obtain rfl := harg2.eq_unread e1; obtain rfl := harg3.eq_unread e2
  obtain rfl := harg4.eq_unread e3; obtain rfl := harg5.eq_unread e4
  sl_exec (disch := first | sl_exact h0 | sl_exact h1)
  sl_step
  iapply Hk
  isplitl [H0 H1 H2 H3]
  · isplitl [H0]; · iapply owns_of_reads c arg1 e0; iexact H0
    isplitl [H1]; · iapply owns_of_reads c arg2 e1; iexact H1
    isplitl [H2]; · iapply owns_of_reads c arg3 e2; iexact H2
    iapply owns_of_reads c arg4 e3; iexact H3
  isplitl [H4]
  · iapply owns_of_reads c arg5 e4; iexact H4
  iexists _; isplitr; swap; · iexact H5
  ipureintro
  refine (View.read_writes_full arg6.view _ inb_S8x8x128_S8x8x128_0_0_0 _ _).trans ?_
  sl_unfold_words
  rw [View.readAt_full arg1.view, View.readAt_full arg2.view, View.readAt_full arg3.view, View.readAt_full arg4.view, e0, e1, e2, e3, View.readCov_full arg6.view]
  rfl

set_option maxHeartbeats 1000000 in
/-- A middle point: the accumulator is carried on; the table is left alone. -/
theorem body0_mid (h0 : ¬atStart i) (h1 : ¬atEnd i) (y : Vec F S8x128 .f32) (s : Vec F S8x8x128 .f32) (E : Set ℕ) (K : PUnit → sProp 𝕄) :
    iprop(held0 c arg1 arg2 arg3 arg4 x0 x1 x2 x3 ∗ owns (c : Thread nD τ) arg5 fullShare y ∗ owns (c : Thread nD τ) arg6 fullShare s
        ∗ (iprop(held0 c arg1 arg2 arg3 arg4 x0 x1 x2 x3 ∗ owns (c : Thread nD τ) arg5 fullShare y
            ∗ owns (c : Thread nD τ) arg6 fullShare (accStep x0 x1 x2 x3 s)) -∗ K ⟨⟩))
      ⊢ wp frame (wpE (defs₀ (F := F)) Variants.none c none) E
          (cc0__stats_body i arg1 harg1 arg2 harg2 arg3 harg3 arg4 harg4 arg5 harg5 arg6 harg6) K := by
  simp only [cc0__stats_body_eq_skeleton]; unfold cc0__stats_body_skel
  simp only [k0_part1_eq_skeleton]
  unfold held0 owns
  iintro ⟨⟨⟨%f0, %e0, H0⟩, ⟨%f1, %e1, H1⟩, ⟨%f2, %e2, H2⟩, ⟨%f3, %e3, H3⟩⟩, ⟨%f4, %e4, H4⟩, ⟨%f5, %e5, H5⟩, Hk⟩
  obtain rfl := harg1.eq_unread e0; obtain rfl := harg2.eq_unread e1; obtain rfl := harg3.eq_unread e2
  obtain rfl := harg4.eq_unread e3; obtain rfl := harg5.eq_unread e4; obtain rfl := harg6.eq_unread e5
  sl_exec (disch := first | sl_exact h0 | sl_exact h1)
  sl_step
  iapply Hk
  isplitl [H0 H1 H2 H3]
  · isplitl [H0]; · iapply owns_of_reads c arg1 e0; iexact H0
    isplitl [H1]; · iapply owns_of_reads c arg2 e1; iexact H1
    isplitl [H2]; · iapply owns_of_reads c arg3 e2; iexact H2
    iapply owns_of_reads c arg4 e3; iexact H3
  isplitl [H4]
  · iapply owns_of_reads c arg5 e4; iexact H4
  iexists _; isplitr; swap; · iexact H5
  ipureintro
  refine (View.read_writes_full arg6.view _ inb_S8x8x128_S8x8x128_0_0_0 _ _).trans ?_
  sl_unfold_words
  rw [View.readAt_full arg1.view, View.readAt_full arg2.view, View.readAt_full arg3.view, View.readAt_full arg4.view, e0, e1, e2, e3, View.readAt_full arg6.view, e5]
  rfl

set_option maxHeartbeats 1000000 in
/-- The last point: the accumulator is carried on, and its second axis is summed into the table. -/
theorem body0_end (h0 : ¬atStart i) (h1 : atEnd i) (s : Vec F S8x8x128 .f32) (E : Set ℕ) (K : PUnit → sProp 𝕄) :
    iprop(held0 c arg1 arg2 arg3 arg4 x0 x1 x2 x3 ∗ (∃ d, owns (c : Thread nD τ) arg5 fullShare d) ∗ owns (c : Thread nD τ) arg6 fullShare s
        ∗ (iprop(held0 c arg1 arg2 arg3 arg4 x0 x1 x2 x3 ∗ owns (c : Thread nD τ) arg5 fullShare (k0_pay2 (accStep x0 x1 x2 x3 s))
            ∗ owns (c : Thread nD τ) arg6 fullShare (accStep x0 x1 x2 x3 s)) -∗ K ⟨⟩))
      ⊢ wp frame (wpE (defs₀ (F := F)) Variants.none c none) E
          (cc0__stats_body i arg1 harg1 arg2 harg2 arg3 harg3 arg4 harg4 arg5 harg5 arg6 harg6) K := by
  simp only [cc0__stats_body_eq_skeleton]; unfold cc0__stats_body_skel
  simp only [k0_part1_eq_skeleton]
  unfold held0 owns
  iintro ⟨⟨⟨%f0, %e0, H0⟩, ⟨%f1, %e1, H1⟩, ⟨%f2, %e2, H2⟩, ⟨%f3, %e3, H3⟩⟩, ⟨%d, %f4, -, H4⟩, ⟨%f5, %e5, H5⟩, Hk⟩
  obtain rfl := harg1.eq_unread e0; obtain rfl := harg2.eq_unread e1; obtain rfl := harg3.eq_unread e2
  obtain rfl := harg4.eq_unread e3; obtain rfl := harg6.eq_unread e5
  sl_exec (disch := first | sl_exact h0 | sl_exact h1)
  sl_step
  iapply Hk
  isplitl [H0 H1 H2 H3]
  · isplitl [H0]; · iapply owns_of_reads c arg1 e0; iexact H0
    isplitl [H1]; · iapply owns_of_reads c arg2 e1; iexact H1
    isplitl [H2]; · iapply owns_of_reads c arg3 e2; iexact H2
    iapply owns_of_reads c arg4 e3; iexact H3
  isplitl [H4]
  · iexists _; isplitr; swap; · iexact H4
    ipureintro
    refine (View.read_writes_full arg5.view _ inb_S8x128_S8x128_0_0 _ _).trans ?_
    sl_unfold_words
    rw [View.readAt_full arg1.view, View.readAt_full arg2.view, View.readAt_full arg3.view, View.readAt_full arg4.view, e0, e1, e2, e3, View.readAt_full arg6.view, e5, View.readCov_full arg6.view]
    rfl
  iexists _; isplitr; swap; · iexact H5
  ipureintro
  refine (View.read_writes_full arg6.view _ inb_S8x8x128_S8x8x128_0_0_0 _ _).trans ?_
  sl_unfold_words
  rw [View.readAt_full arg1.view, View.readAt_full arg2.view, View.readAt_full arg3.view, View.readAt_full arg4.view, e0, e1, e2, e3, View.readAt_full arg6.view, e5]
  rfl

end Body

end Cert.KernelIdeal.Run

end
-- ==== Proof.KI.StatsCall.lean ====
/- The first call over its grid: what the accumulator holds after each point, the data the pipeline's rule takes, and
   the body's obligation. The arrays' contents on entry are a parameter. -/
module

public import proofs.«01_k».proof.Proof.KI.Stats
public import Idealize.ShloMosaic.Lib.Claim
public import Idealize.ShloMosaic.Lib.Pipeline.FrameBody
public import Idealize.ShloMosaic.Lib.Ring
public import Idealize.ShloMosaic.Lib.Tactic
public import Idealize.ShloMosaic.Lib.WordCmp
public import Idealize.ShloMosaic.Lib.VecWindow
public import Idealize.ShloMosaic.Lib.WritesUnit

@[expose] public section

set_option maxRecDepth 16384

noncomputable section

namespace Cert.KernelIdeal.Run

open Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F] [Named F]

local notation "𝕄" => MT nD τ sig Unit (Elt F) ℕ (UR sig nD τ) ℕ

/-! ## The first call's data: its arrays as the call finds them, `V` -/

variable (V : (c : Dev nD) → (b : Ref sig .tc) → Buf (Elt F) ((c : Thread nD τ).loc b))

/-- Window `w`'s block at point `t` of the array as the call finds it. -/
def blk0 (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

/-- The accumulator after point `n`: every block up to it, added to zero in order. -/
def acc (c : Dev nD) : (n : ℕ) → n < cfg0.N → Vec F S8x8x128 .f32
  | 0, h => accStep (blk0 V c 0 ⟨0, h⟩) (blk0 V c 1 ⟨0, h⟩) (blk0 V c 2 ⟨0, h⟩) (blk0 V c 3 ⟨0, h⟩) k0_pay3
  | n + 1, h => accStep (blk0 V c 0 ⟨n + 1, h⟩) (blk0 V c 1 ⟨n + 1, h⟩) (blk0 V c 2 ⟨n + 1, h⟩) (blk0 V c 3 ⟨n + 1, h⟩) (acc c n (Nat.lt_of_succ_lt h))

/-- The accumulator's buffer, whole. -/
abbrev accBuf : Memref sig .tc .vmem S8x8x128 .f32 := Memref.whole cc0_scratch0

/-- What is held of the accumulator before point `n`: anything before the first, afterwards what the last one left. -/
def accHeld (c : Dev nD) : (n : ℕ) → n ≤ cfg0.N → sProp 𝕄
  | 0, _ => iprop(∃ d, owns (c : Thread nD τ) accBuf fullShare d)
  | n + 1, h => owns (c : Thread nD τ) accBuf fullShare (acc V c n h)

theorem accHeld_pos (c : Dev nD) (n : ℕ) (h : n ≤ cfg0.N) (hn : n ≠ 0) :
    accHeld V c n h = (owns (c : Thread nD τ) accBuf fullShare (acc V c (n - 1) (by omega)) : sProp 𝕄) := by
  cases n with
  | zero => exact absurd rfl hn
  | succ n => rfl

/-- The other call's own buffers, at anything, untouched by this one. -/
abbrev others0 (c : Dev nD) : sProp 𝕄 :=
  Pipeline.scopedRestBut (Ix := Unit) (Name := ℕ) (U := UR sig nD τ) (Lvl := ℕ) (Val := Elt F) spec0 c [cc0_scratch0]

/-- What the call holds beside its windows before point `n`. -/
def beside0 (c : Dev nD) (n : ℕ) (h : n ≤ cfg0.N) : sProp 𝕄 :=
  iprop((accHeld V c n h ∗ others0 (F := F) c) ∗ (∃ r, prngReg c r))

/-- What the launch hands the call is what it holds before its first point. -/
theorem start0_eq (c : Dev nD) : (Pipeline.ΦA spec0 c : sProp 𝕄) = beside0 V c 0 (Nat.zero_le _) := by
  unfold Pipeline.ΦA beside0
  rw [Pipeline.scopedRest_split_of_list spec0 c [cc0_scratch0] (by decide) (by decide)]
  simp only [accHeld, accBuf, owns_whole]
  rfl

/-- The call's data: each input's window keeps its block, the table of sums is the accumulator with its second axis
    summed (written back at the last point only), nothing is owed to another core. -/
def dat0 (c : Dev nD) : Dat τ (Elt F) Unit ℕ (UR sig nD τ) ℕ cfg0 c where
  A w := V c (Pipeline.arrRef spec0 w)
  after w t := match w with
    | ⟨0, _⟩ => blk0 V c 0 t
    | ⟨1, _⟩ => blk0 V c 1 t
    | ⟨2, _⟩ => blk0 V c 2 t
    | ⟨3, _⟩ => blk0 V c 3 t
    | ⟨4, _⟩ => k0_pay2 (acc V c t.val t.isLt)
  Φ t := beside0 V c t.val (Nat.le_of_lt_succ t.isLt)
  q _ := fullShare
  owed _ := 0

theorem A_eq0 (c : Dev nD) (w : Fin cfg0.W) : (dat0 V c).A w = V c (Pipeline.arrRef spec0 w) := by
  dsimp only [dat0]

theorem beside0_castSucc (c : Dev nD) (t : Fin cfg0.N) :
    (dat0 V c).Φ t.castSucc = beside0 V c t.val (Nat.le_of_lt t.isLt) := by
  dsimp only [dat0]; exact Pipeline.Dat.Φ_castSucc (beside0 V c) t

theorem after0_0 (c : Dev nD) (t : Fin cfg0.N) : (dat0 V c).after 0 t = blk0 V c 0 t := by dsimp only [dat0]
theorem after0_1 (c : Dev nD) (t : Fin cfg0.N) : (dat0 V c).after 1 t = blk0 V c 1 t := by dsimp only [dat0]
theorem after0_2 (c : Dev nD) (t : Fin cfg0.N) : (dat0 V c).after 2 t = blk0 V c 2 t := by dsimp only [dat0]
theorem after0_3 (c : Dev nD) (t : Fin cfg0.N) : (dat0 V c).after 3 t = blk0 V c 3 t := by dsimp only [dat0]
theorem after0_4 (c : Dev nD) (t : Fin cfg0.N) : (dat0 V c).after 4 t = k0_pay2 (acc V c t.val t.isLt) := by dsimp only [dat0]

/-! Each input window holds its block at every point. -/

theorem before0_0 (c : Dev nD) (t : Fin cfg0.N) (d) : (dat0 V c).before 0 t d = blk0 V c 0 t :=
  ((dat0 V c).before_in_eq_fetched 0 rfl (fun _ => rfl) (fun _ _ _ => rfl)
    (fun t => by rw [after0_0]; unfold Dat.blockOf blk0; rw [A_eq0]) t d).trans (by unfold Dat.fetched Dat.blockOf blk0; rw [A_eq0]; rfl)
theorem before0_1 (c : Dev nD) (t : Fin cfg0.N) (d) : (dat0 V c).before 1 t d = blk0 V c 1 t :=
  ((dat0 V c).before_in_eq_fetched 1 rfl (fun _ => rfl) (fun _ _ _ => rfl)
    (fun t => by rw [after0_1]; unfold Dat.blockOf blk0; rw [A_eq0]) t d).trans (by unfold Dat.fetched Dat.blockOf blk0; rw [A_eq0]; rfl)
theorem before0_2 (c : Dev nD) (t : Fin cfg0.N) (d) : (dat0 V c).before 2 t d = blk0 V c 2 t :=
  ((dat0 V c).before_in_eq_fetched 2 rfl (fun _ => rfl) (fun _ _ _ => rfl)
    (fun t => by rw [after0_2]; unfold Dat.blockOf blk0; rw [A_eq0]) t d).trans (by unfold Dat.fetched Dat.blockOf blk0; rw [A_eq0]; rfl)
theorem before0_3 (c : Dev nD) (t : Fin cfg0.N) (d) : (dat0 V c).before 3 t d = blk0 V c 3 t :=
  ((dat0 V c).before_in_eq_fetched 3 rfl (fun _ => rfl) (fun _ _ _ => rfl)
    (fun t => by rw [after0_3]; unfold Dat.blockOf blk0; rw [A_eq0]) t d).trans (by unfold Dat.fetched Dat.blockOf blk0; rw [A_eq0]; rfl)

/-! ## The table of sums is left alone but at the last point -/

theorem idle0_4 (t : Fin cfg0.N) (h : ¬atEnd (grid0.coords t)) : cfg0.idle 4 (grid0.coords t) = true :=
  (by decide +kernel : ∀ t : Fin cfg0.N, ¬atEnd (grid0.coords t) → cfg0.idle 4 (grid0.coords t) = true) t h
theorem kept0_4 (t : Fin cfg0.N) (h : ¬atEnd (grid0.coords t)) : (cfg0.win 4).flush t = false :=
  (by decide +kernel : ∀ t : Fin cfg0.N, ¬atEnd (grid0.coords t) → (cfg0.win 4).flush t = false) t h
theorem live0_4 (t : Fin cfg0.N) (h : atEnd (grid0.coords t)) : cfg0.idle 4 (grid0.coords t) = false :=
  (by decide +kernel : ∀ t : Fin cfg0.N, atEnd (grid0.coords t) → cfg0.idle 4 (grid0.coords t) = false) t h

/-! ## The body at a point -/

abbrev win0At0 (t : Fin cfg0.N) : Memref sig .tc .vmem S10000x128 .f32 := win0_0.stage (cfg0.slots t 0)
abbrev win0At1 (t : Fin cfg0.N) : Memref sig .tc .vmem S10000x128 .f32 := win0_1.stage (cfg0.slots t 1)
abbrev win0At2 (t : Fin cfg0.N) : Memref sig .tc .vmem S10000x128 .f32 := win0_2.stage (cfg0.slots t 2)
abbrev win0At3 (t : Fin cfg0.N) : Memref sig .tc .vmem S10000x128 .f32 := win0_3.stage (cfg0.slots t 3)
abbrev win0At4 (t : Fin cfg0.N) : Memref sig .tc .vmem S8x128 .f32 := win0_4.stage (cfg0.slots t 4)

/-- What the body is called with at point `t`. -/
def pre0 (c : Dev nD) (t : Fin cfg0.N) : sProp 𝕄 :=
  iprop((dat0 V c).Φ t.castSucc ∗ (dat0 V c).owesAt () t.castSucc
    ∗ (∃ d, owns (c : Thread nD τ) (win0At0 t) fullShare ((dat0 V c).before 0 t d))
    ∗ (∃ d, owns (c : Thread nD τ) (win0At1 t) fullShare ((dat0 V c).before 1 t d))
    ∗ (∃ d, owns (c : Thread nD τ) (win0At2 t) fullShare ((dat0 V c).before 2 t d))
    ∗ (∃ d, owns (c : Thread nD τ) (win0At3 t) fullShare ((dat0 V c).before 3 t d))
    ∗ (∃ d, owns (c : Thread nD τ) (win0At4 t) fullShare ((dat0 V c).before 4 t d)))

/-- What it returns. -/
def post0 (c : Dev nD) (t : Fin cfg0.N) : sProp 𝕄 :=
  iprop((dat0 V c).Φ t.succ ∗ (dat0 V c).owesAt () t.succ
    ∗ (dat0 V c).leavesExact 0 t
    ∗ (dat0 V c).leavesExact 1 t
    ∗ (dat0 V c).leavesExact 2 t
    ∗ (dat0 V c).leavesExact 3 t
    ∗ (dat0 V c).leavesExact 4 t)

theorem leaves0_0 (c : Dev nD) (t : Fin cfg0.N) :
    (dat0 V c).leavesExact 0 t = owns (c : Thread nD τ) (win0At0 t) fullShare (blk0 V c 0 t) := by
  rw [← after0_0]
theorem leaves0_1 (c : Dev nD) (t : Fin cfg0.N) :
    (dat0 V c).leavesExact 1 t = owns (c : Thread nD τ) (win0At1 t) fullShare (blk0 V c 1 t) := by
  rw [← after0_1]
theorem leaves0_2 (c : Dev nD) (t : Fin cfg0.N) :
    (dat0 V c).leavesExact 2 t = owns (c : Thread nD τ) (win0At2 t) fullShare (blk0 V c 2 t) := by
  rw [← after0_2]
theorem leaves0_3 (c : Dev nD) (t : Fin cfg0.N) :
    (dat0 V c).leavesExact 3 t = owns (c : Thread nD τ) (win0At3 t) fullShare (blk0 V c 3 t) := by
  rw [← after0_3]
theorem leaves0_4 (c : Dev nD) (t : Fin cfg0.N) (h : atEnd (grid0.coords t)) :
    (dat0 V c).leavesExact 4 t = owns (c : Thread nD τ) (win0At4 t) fullShare (k0_pay2 (acc V c t.val t.isLt)) := by
  rw [← after0_4]; unfold Dat.leavesExact; rw [live0_4 t h]

theorem acc_first (c : Dev nD) (t : Fin cfg0.N) (h : t.val = 0) :
    acc V c t.val t.isLt = accStep (blk0 V c 0 t) (blk0 V c 1 t) (blk0 V c 2 t) (blk0 V c 3 t) k0_pay3 := by
  obtain ⟨n, hn⟩ := t
  obtain rfl : n = 0 := h
  rfl
theorem acc_next (c : Dev nD) (t : Fin cfg0.N) (h : t.val ≠ 0) :
    acc V c t.val t.isLt = accStep (blk0 V c 0 t) (blk0 V c 1 t) (blk0 V c 2 t) (blk0 V c 3 t)
      (acc V c (t.val - 1) (Nat.lt_of_le_of_lt (Nat.sub_le _ _) t.isLt)) := by
  obtain ⟨n, hn⟩ := t
  cases n with
  | zero => exact absurd rfl h
  | succ n => rfl
theorem accHeld_succ (c : Dev nD) (n : ℕ) (h : n < cfg0.N) :
    accHeld V c (n + 1) h = (owns (c : Thread nD τ) accBuf fullShare (acc V c n h) : sProp 𝕄) := rfl
theorem accHeld_first (c : Dev nD) (n : ℕ) (h : n ≤ cfg0.N) (hn : n = 0) :
    accHeld V c n h = (iprop(∃ d, owns (c : Thread nD τ) accBuf fullShare d) : sProp 𝕄) := by
  subst hn; rfl

set_option maxHeartbeats 1600000 in
/-- The body at any point. -/
theorem sound0 (c : Dev nD) (t : Fin cfg0.N) :
    pre0 V c t ⊢ wp frame (wpE (defs₀ (F := F)) Variants.none c none) Set.univ (bodyAt0 t) (fun _ => post0 V c t) := by
  unfold pre0 post0 bodyAt0
  simp only [before0_0, before0_1, before0_2, before0_3]
  rw [show (dat0 V c).owesAt () t.succ = (dat0 V c).owesAt () t.castSucc from rfl,
    show (dat0 V c).Φ t.succ = beside0 V c (t.val + 1) t.isLt from rfl, beside0_castSucc,
    leaves0_0, leaves0_1, leaves0_2, leaves0_3]
  unfold beside0
  rw [accHeld_succ]
  by_cases h0 : t.val = 0
  · have hs := (atStart_iff t).mpr h0
    have he : ¬atEnd (grid0.coords t) := fun h => by have := (atEnd_iff t).mp h; omega
    rw [Dat.leavesExact_idle (dat0 V c) 4 t (idle0_4 t he) (kept0_4 t he), accHeld_first V c _ _ h0, acc_first V c t h0]
    iintro ⟨⟨⟨HS, Hr⟩, Hg⟩, Ho, ⟨%d0, H0⟩, ⟨%d1, H1⟩, ⟨%d2, H2⟩, ⟨%d3, H3⟩, ⟨%d4, H4⟩⟩
    iapply body0_start c (grid0.coords t) _ _ _ _ _ _ _ _ _ _ _ _ (blk0 V c 0 t) (blk0 V c 1 t) (blk0 V c 2 t) (blk0 V c 3 t) hs he _
    isplitl [H0 H1 H2 H3]
    · isplitl [H0]; · iexact H0
      isplitl [H1]; · iexact H1
      isplitl [H2]; · iexact H2
      iexact H3
    isplitl [H4]; · iexact H4
    isplitl [HS]; · iexact HS
    iintro ⟨⟨H0, H1, H2, H3⟩, H4, HS⟩
    isplitl [HS Hr Hg]
    · isplitl [HS Hr]
      · isplitl [HS]; · iexact HS
        iexact Hr
      iexact Hg
    isplitl [Ho]; · iexact Ho
    isplitl [H0]; · iexact H0
    isplitl [H1]; · iexact H1
    isplitl [H2]; · iexact H2
    isplitl [H3]; · iexact H3
    iexists _; iexact H4

  have hs : ¬atStart (grid0.coords t) := fun h => h0 ((atStart_iff t).mp h)
  rw [accHeld_pos V c _ _ h0, acc_next V c t h0]
  by_cases he : atEnd (grid0.coords t)
  · rw [leaves0_4 V c t he, acc_next V c t h0]
    iintro ⟨⟨⟨HS, Hr⟩, Hg⟩, Ho, ⟨%d0, H0⟩, ⟨%d1, H1⟩, ⟨%d2, H2⟩, ⟨%d3, H3⟩, ⟨%d4, H4⟩⟩
    iapply body0_end c (grid0.coords t) _ _ _ _ _ _ _ _ _ _ _ _ (blk0 V c 0 t) (blk0 V c 1 t) (blk0 V c 2 t) (blk0 V c 3 t) hs he _
    isplitl [H0 H1 H2 H3]
    · isplitl [H0]; · iexact H0
      isplitl [H1]; · iexact H1
      isplitl [H2]; · iexact H2
      iexact H3
    isplitl [H4]; · iexists _; iexact H4
    isplitl [HS]; · iexact HS
    iintro ⟨⟨H0, H1, H2, H3⟩, H4, HS⟩
    isplitl [HS Hr Hg]
    · isplitl [HS Hr]
      · isplitl [HS]; · iexact HS
        iexact Hr
      iexact Hg
    isplitl [Ho]; · iexact Ho
    isplitl [H0]; · iexact H0
    isplitl [H1]; · iexact H1
    isplitl [H2]; · iexact H2
    isplitl [H3]; · iexact H3
    iexact H4

  · rw [Dat.leavesExact_idle (dat0 V c) 4 t (idle0_4 t he) (kept0_4 t he)]
    iintro ⟨⟨⟨HS, Hr⟩, Hg⟩, Ho, ⟨%d0, H0⟩, ⟨%d1, H1⟩, ⟨%d2, H2⟩, ⟨%d3, H3⟩, ⟨%d4, H4⟩⟩
    iapply body0_mid c (grid0.coords t) _ _ _ _ _ _ _ _ _ _ _ _ (blk0 V c 0 t) (blk0 V c 1 t) (blk0 V c 2 t) (blk0 V c 3 t) hs he _ _
    isplitl [H0 H1 H2 H3]
    · isplitl [H0]; · iexact H0
      isplitl [H1]; · iexact H1
      isplitl [H2]; · iexact H2
      iexact H3
    isplitl [H4]; · iexact H4
    isplitl [HS]; · iexact HS
    iintro ⟨⟨H0, H1, H2, H3⟩, H4, HS⟩
    isplitl [HS Hr Hg]
    · isplitl [HS Hr]
      · isplitl [HS]; · iexact HS
        iexact Hr
      iexact Hg
    isplitl [Ho]; · iexact Ho
    isplitl [H0]; · iexact H0
    isplitl [H1]; · iexact H1
    isplitl [H2]; · iexact H2
    isplitl [H3]; · iexact H3
    iexists _; iexact H4

theorem row0 (t : Fin cfg0.N) : defs₀ (F := F) .tc cfg0.body (cfg0.bodyArgs t (cfg0.slots t)) = bodyAt0 t := by
  unfold defs₀; rw [Defs.onTc_tc]

/-- The first call's body meets its data at every point. -/
theorem obligation0 (c : Dev nD) : BodyObligation (dat0 V c) (defs₀ (F := F)) Variants.none () Set.univ := fun t => by
  rw [bigSep_W0, bigSep_W0, row0]
  exact triple_restated (sound0 V c t) rfl .rfl fun _ => .rfl

/-- What the launch hands the call is what it starts from, -/
theorem enter0 (c : Dev nD) : (Pipeline.ΦA spec0 c : sProp 𝕄) ⊢ (dat0 V c).Φ 0 := by
  rw [start0_eq V c]; exact .rfl

/-- and what it ends with gives that back, the accumulator's contents forgotten. -/
theorem leave0 (c : Dev nD) : (dat0 V c).Φ (Fin.last cfg0.N) ⊢ (Pipeline.ΦA spec0 c : sProp 𝕄) := by
  rw [start0_eq V c, show (dat0 V c).Φ (Fin.last cfg0.N) = beside0 V c cfg0.N (Nat.le_refl _) from rfl]
  unfold beside0
  rw [accHeld_pos V c cfg0.N (Nat.le_refl _) (by rw [show cfg0.N = 10 from N_0]; decide), accHeld_first V c 0 _ rfl]
  iintro ⟨⟨HS, Hr⟩, Hg⟩
  isplitl [HS Hr]
  · isplitl [HS]; · iexists _; iexact HS
    iexact Hr
  iexact Hg

end Cert.KernelIdeal.Run

end
-- ==== Proof.KI.Norm.lean ====
/- The second call, one grid point at a time: what its body leaves in the four outputs and in the table of scales and
   shifts, at the first point (which computes the table) and at the later ones. Stated over any float reading. -/
module

public import proofs.«01_k».proof.Proof.KI.Stats
public import Idealize.ShloMosaic.Lib.Pipeline.FrameBody
public import Idealize.ShloMosaic.Lib.Ring
public import Idealize.ShloMosaic.Lib.Tactic
public import Idealize.ShloMosaic.Lib.WordCmp
public import Idealize.ShloMosaic.Lib.VecWindow
public import Idealize.ShloMosaic.Lib.WritesUnit

@[expose] public section

set_option maxRecDepth 16384

noncomputable section

namespace Cert.KernelIdeal.Run

open Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F] [Named F]

local notation "𝕄" => MT nD τ sig Unit (Elt F) ℕ (UR sig nD τ) ℕ

/-! ## Loads of part of a buffer -/

/-- A load of part of a buffer whose only store filled it takes that part of the stored value. -/
theorem load_of_filled {κ : Kind} {sp : Space} {s : Shape} {e : EltTy} (v : View sig κ sp s e) (r : Rect s)
    {off : Fin s.rank → ℕ} (inb : ∀ a, off a + s.size a ≤ s.size a) (w : s.Idx → Elt F e) (L : List (View.Piece (Elt F) s e)) :
    v.readCov (Val := Elt F) (⟨Rect.unit off s.size inb, w⟩ :: L) r.toLoadRect = View.ld w r := by
  show v.readAt (Elt F) r.toLoadRect (v.writes (Elt F) v.junk _) = _
  rw [View.readAt_eq_ld, View.read_writes_full]

/-! ## The values -/

/-- Row `k` of the table of scales and shifts, as the body loads it. -/
abbrev tableRow (k : ℕ) (inb : ∀ a, (![k, 0] : Fin 2 → ℕ) a + S1x128.size a ≤ S8x128.size a) (T : Vec F S8x128 .f32) : Vec F S1x128 .f32 :=
  View.ld T (Rect.unit (s := S8x128) ![k, 0] S1x128.size inb)

/-- What a point leaves in output 0: its block, scaled by row 0 of the table and shifted by row 4. -/
def out0 (x : Vec F S5000x128 .f32) (T : Vec F S8x128 .f32) : Vec F S5000x128 .f32 :=
  k1_pay3 x (tableRow 0 inb_S8x128_S1x128_0_0 T) (tableRow 4 inb_S8x128_S1x128_4_0 T)

/-- What a point leaves in output 1: its block, scaled by row 1 of the table and shifted by row 5. -/
def out1 (x : Vec F S5000x128 .f32) (T : Vec F S8x128 .f32) : Vec F S5000x128 .f32 :=
  k1_pay4 x (tableRow 1 inb_S8x128_S1x128_1_0 T) (tableRow 5 inb_S8x128_S1x128_5_0 T)

/-- What a point leaves in output 2: its block, scaled by row 2 of the table and shifted by row 6. -/
def out2 (x : Vec F S5000x128 .f32) (T : Vec F S8x128 .f32) : Vec F S5000x128 .f32 :=
  k1_pay5 x (tableRow 2 inb_S8x128_S1x128_2_0 T) (tableRow 6 inb_S8x128_S1x128_6_0 T)

/-- What a point leaves in output 3: its block, scaled by row 3 of the table and shifted by row 7. -/
def out3 (x : Vec F S5000x128 .f32) (T : Vec F S8x128 .f32) : Vec F S5000x128 .f32 :=
  k1_pay1 x (tableRow 3 inb_S8x128_S1x128_3_0 T) (tableRow 7 inb_S8x128_S1x128_7_0 T)

/-! ## Which point is which -/

/-- The body's test: is this the first point? -/
abbrev atStart1 (i : grid1.Coords) : Prop :=
  (Scalar.cmpi .ne (Scalar.extui (Scalar.cmpi .eq (BitVec.ofNat 32 (i 0).val) 0#32)) 0#32) = 1#1

theorem atStart1_iff (t : Fin grid1.N) : atStart1 (grid1.coords t) ↔ t.val = 0 := by
  have ht : t.val < 20 := Nat.lt_of_lt_of_eq t.isLt N_1
  have e0 : (grid1.coords t 0).val = t.val / 1 % 20 := Pipeline.Grid.coords_val t 0 (by decide) rfl
  rw [show t.val = 0 ↔ t.val % 20 = 0 by omega]
  simp only [atStart1, e0]
  word_cmp

/-! ## The body -/

section Body
variable (c : Dev nD) (i : grid1.Coords)
  (arg1 : Memref sig .tc .vmem S8x128 .f32) (harg1 : arg1.IsWhole)
  (arg2 : Memref sig .tc .vmem S4x128 .f32) (harg2 : arg2.IsWhole)
  (arg3 : Memref sig .tc .vmem S4x128 .f32) (harg3 : arg3.IsWhole)
  (arg4 : Memref sig .tc .vmem S5000x128 .f32) (harg4 : arg4.IsWhole)
  (arg5 : Memref sig .tc .vmem S5000x128 .f32) (harg5 : arg5.IsWhole)
  (arg6 : Memref sig .tc .vmem S5000x128 .f32) (harg6 : arg6.IsWhole)
  (arg7 : Memref sig .tc .vmem S5000x128 .f32) (harg7 : arg7.IsWhole)
  (arg8 : Memref sig .tc .vmem S5000x128 .f32) (harg8 : arg8.IsWhole)
  (arg9 : Memref sig .tc .vmem S5000x128 .f32) (harg9 : arg9.IsWhole)
  (arg10 : Memref sig .tc .vmem S5000x128 .f32) (harg10 : arg10.IsWhole)
  (arg11 : Memref sig .tc .vmem S5000x128 .f32) (harg11 : arg11.IsWhole)
  (arg12 : Memref sig .tc .vmem S8x128 .f32) (harg12 : arg12.IsWhole)
  (x0 : Vec F S8x128 .f32) (x1 x2 : Vec F S4x128 .f32) (x3 x4 x5 x6 : Vec F S5000x128 .f32)

/-- The seven input blocks held at their contents. -/
abbrev held1 : sProp 𝕄 :=
  iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6)

set_option maxHeartbeats 4000000 in
/-- The first point: the table is computed from the sums, the weights and the biases, and then used. -/
theorem body1_start (h0 : atStart1 i) (E : Set ℕ) (K : PUnit → sProp 𝕄) :
    iprop(held1 c arg1 arg2 arg3 arg4 arg5 arg6 arg7 x0 x1 x2 x3 x4 x5 x6
        ∗ (∃ d, owns (c : Thread nD τ) arg8 fullShare d) ∗ (∃ d, owns (c : Thread nD τ) arg9 fullShare d) ∗ (∃ d, owns (c : Thread nD τ) arg10 fullShare d) ∗ (∃ d, owns (c : Thread nD τ) arg11 fullShare d) ∗ (∃ d, owns (c : Thread nD τ) arg12 fullShare d)
        ∗ (iprop(held1 c arg1 arg2 arg3 arg4 arg5 arg6 arg7 x0 x1 x2 x3 x4 x5 x6
            ∗ owns (c : Thread nD τ) arg8 fullShare (out0 x3 (k1_pay2 x0 x1 x2))
            ∗ owns (c : Thread nD τ) arg9 fullShare (out1 x4 (k1_pay2 x0 x1 x2))
            ∗ owns (c : Thread nD τ) arg10 fullShare (out2 x5 (k1_pay2 x0 x1 x2))
            ∗ owns (c : Thread nD τ) arg11 fullShare (out3 x6 (k1_pay2 x0 x1 x2))
            ∗ owns (c : Thread nD τ) arg12 fullShare (k1_pay2 x0 x1 x2)) -∗ K ⟨⟩))
      ⊢ wp frame (wpE (defs₀ (F := F)) Variants.none c none) E
          (cc1__norm_body i arg1 harg1 arg2 harg2 arg3 harg3 arg4 harg4 arg5 harg5 arg6 harg6 arg7 harg7 arg8 harg8 arg9 harg9 arg10 harg10 arg11 harg11 arg12 harg12) K := by
  simp only [cc1__norm_body_eq_skeleton]; unfold cc1__norm_body_skel
  simp only [k1_part1_eq_skeleton]
  unfold held1 owns
  iintro ⟨⟨⟨%f0, %e0, H0⟩, ⟨%f1, %e1, H1⟩, ⟨%f2, %e2, H2⟩, ⟨%f3, %e3, H3⟩, ⟨%f4, %e4, H4⟩, ⟨%f5, %e5, H5⟩, ⟨%f6, %e6, H6⟩⟩, ⟨%d7, %f7, -, H7⟩, ⟨%d8, %f8, -, H8⟩, ⟨%d9, %f9, -, H9⟩, ⟨%d10, %f10, -, H10⟩, ⟨%d, %f11, -, H11⟩, Hk⟩
  obtain rfl := harg1.eq_unread e0
  obtain rfl := harg2.eq_unread e1
  obtain rfl := harg3.eq_unread e2
  obtain rfl := harg4.eq_unread e3
  obtain rfl := harg5.eq_unread e4
  obtain rfl := harg6.eq_unread e5
  obtain rfl := harg7.eq_unread e6
  sl_exec (disch := sl_exact h0)
  sl_step
  iapply Hk
  isplitl [H0 H1 H2 H3 H4 H5 H6]
  · isplitl [H0]; · iapply owns_of_reads c arg1 e0; iexact H0
    isplitl [H1]; · iapply owns_of_reads c arg2 e1; iexact H1
    isplitl [H2]; · iapply owns_of_reads c arg3 e2; iexact H2
    isplitl [H3]; · iapply owns_of_reads c arg4 e3; iexact H3
    isplitl [H4]; · iapply owns_of_reads c arg5 e4; iexact H4
    isplitl [H5]; · iapply owns_of_reads c arg6 e5; iexact H5
    iapply owns_of_reads c arg7 e6; iexact H6
  isplitl [H7]
  · iexists _; isplitr; swap; · iexact H7
    ipureintro
    refine (View.read_writes_full arg8.view _ inb_S5000x128_S5000x128_0_0 _ _).trans ?_
    sl_unfold_words
    rw [View.readAt_full arg4.view, e3]
    rw [View.readAt_full arg1.view, View.readAt_full arg2.view, View.readAt_full arg3.view, e0, e1, e2, load_of_filled, load_of_filled]
    rfl
  isplitl [H8]
  · iexists _; isplitr; swap; · iexact H8
    ipureintro
    refine (View.read_writes_full arg9.view _ inb_S5000x128_S5000x128_0_0 _ _).trans ?_
    sl_unfold_words
    rw [View.readAt_full arg5.view, e4]
    rw [View.readAt_full arg1.view, View.readAt_full arg2.view, View.readAt_full arg3.view, e0, e1, e2, load_of_filled, load_of_filled]
    rfl
  isplitl [H9]
  · iexists _; isplitr; swap; · iexact H9
    ipureintro
    refine (View.read_writes_full arg10.view _ inb_S5000x128_S5000x128_0_0 _ _).trans ?_
    sl_unfold_words
    rw [View.readAt_full arg6.view, e5]
    rw [View.readAt_full arg1.view, View.readAt_full arg2.view, View.readAt_full arg3.view, e0, e1, e2, load_of_filled, load_of_filled]
    rfl
  isplitl [H10]
  · iexists _; isplitr; swap; · iexact H10
    ipureintro
    refine (View.read_writes_full arg11.view _ inb_S5000x128_S5000x128_0_0 _ _).trans ?_
    sl_unfold_words
    rw [View.readAt_full arg7.view, e6]
    rw [View.readAt_full arg1.view, View.readAt_full arg2.view, View.readAt_full arg3.view, e0, e1, e2, load_of_filled, load_of_filled]
    rfl
  iexists _; isplitr; swap; · iexact H11
  ipureintro
  refine (View.read_writes_full arg12.view _ inb_S8x128_S8x128_0_0 _ _).trans ?_
  sl_unfold_words
  rw [View.readAt_full arg1.view, View.readAt_full arg2.view, View.readAt_full arg3.view, e0, e1, e2]

set_option maxHeartbeats 4000000 in
/-- A later point: the table is used as the first point left it. -/
theorem body1_later (h0 : ¬atStart1 i) (T : Vec F S8x128 .f32) (E : Set ℕ) (K : PUnit → sProp 𝕄) :
    iprop(held1 c arg1 arg2 arg3 arg4 arg5 arg6 arg7 x0 x1 x2 x3 x4 x5 x6
        ∗ (∃ d, owns (c : Thread nD τ) arg8 fullShare d) ∗ (∃ d, owns (c : Thread nD τ) arg9 fullShare d) ∗ (∃ d, owns (c : Thread nD τ) arg10 fullShare d) ∗ (∃ d, owns (c : Thread nD τ) arg11 fullShare d) ∗ owns (c : Thread nD τ) arg12 fullShare T
        ∗ (iprop(held1 c arg1 arg2 arg3 arg4 arg5 arg6 arg7 x0 x1 x2 x3 x4 x5 x6
            ∗ owns (c : Thread nD τ) arg8 fullShare (out0 x3 T)
            ∗ owns (c : Thread nD τ) arg9 fullShare (out1 x4 T)
            ∗ owns (c : Thread nD τ) arg10 fullShare (out2 x5 T)
            ∗ owns (c : Thread nD τ) arg11 fullShare (out3 x6 T)
            ∗ owns (c : Thread nD τ) arg12 fullShare T) -∗ K ⟨⟩))
      ⊢ wp frame (wpE (defs₀ (F := F)) Variants.none c none) E
          (cc1__norm_body i arg1 harg1 arg2 harg2 arg3 harg3 arg4 harg4 arg5 harg5 arg6 harg6 arg7 harg7 arg8 harg8 arg9 harg9 arg10 harg10 arg11 harg11 arg12 harg12) K := by
  simp only [cc1__norm_body_eq_skeleton]; unfold cc1__norm_body_skel
  simp only [k1_part1_eq_skeleton]
  unfold held1 owns
  iintro ⟨⟨⟨%f0, %e0, H0⟩, ⟨%f1, %e1, H1⟩, ⟨%f2, %e2, H2⟩, ⟨%f3, %e3, H3⟩, ⟨%f4, %e4, H4⟩, ⟨%f5, %e5, H5⟩, ⟨%f6, %e6, H6⟩⟩, ⟨%d7, %f7, -, H7⟩, ⟨%d8, %f8, -, H8⟩, ⟨%d9, %f9, -, H9⟩, ⟨%d10, %f10, -, H10⟩, ⟨%f11, %e11, H11⟩, Hk⟩
  obtain rfl := harg1.eq_unread e0
  obtain rfl := harg2.eq_unread e1
  obtain rfl := harg3.eq_unread e2
  obtain rfl := harg4.eq_unread e3
  obtain rfl := harg5.eq_unread e4
  obtain rfl := harg6.eq_unread e5
  obtain rfl := harg7.eq_unread e6
  obtain rfl := harg12.eq_unread e11
  sl_exec (disch := sl_exact h0)
  sl_step
  iapply Hk
  isplitl [H0 H1 H2 H3 H4 H5 H6]
  · isplitl [H0]; · iapply owns_of_reads c arg1 e0; iexact H0
    isplitl [H1]; · iapply owns_of_reads c arg2 e1; iexact H1
    isplitl [H2]; · iapply owns_of_reads c arg3 e2; iexact H2
    isplitl [H3]; · iapply owns_of_reads c arg4 e3; iexact H3
    isplitl [H4]; · iapply owns_of_reads c arg5 e4; iexact H4
    isplitl [H5]; · iapply owns_of_reads c arg6 e5; iexact H5
    iapply owns_of_reads c arg7 e6; iexact H6
  isplitl [H7]
  · iexists _; isplitr; swap; · iexact H7
    ipureintro
    refine (View.read_writes_full arg8.view _ inb_S5000x128_S5000x128_0_0 _ _).trans ?_
    sl_unfold_words
    rw [View.readAt_full arg4.view, e3]
    rw [View.readAt_eq_ld arg12.view, View.readAt_eq_ld arg12.view, e11]; rfl
  isplitl [H8]
  · iexists _; isplitr; swap; · iexact H8
    ipureintro
    refine (View.read_writes_full arg9.view _ inb_S5000x128_S5000x128_0_0 _ _).trans ?_
    sl_unfold_words
    rw [View.readAt_full arg5.view, e4]
    rw [View.readAt_eq_ld arg12.view, View.readAt_eq_ld arg12.view, e11]; rfl
  isplitl [H9]
  · iexists _; isplitr; swap; · iexact H9
    ipureintro
    refine (View.read_writes_full arg10.view _ inb_S5000x128_S5000x128_0_0 _ _).trans ?_
    sl_unfold_words
    rw [View.readAt_full arg6.view, e5]
    rw [View.readAt_eq_ld arg12.view, View.readAt_eq_ld arg12.view, e11]; rfl
  isplitl [H10]
  · iexists _; isplitr; swap; · iexact H10
    ipureintro
    refine (View.read_writes_full arg11.view _ inb_S5000x128_S5000x128_0_0 _ _).trans ?_
    sl_unfold_words
    rw [View.readAt_full arg7.view, e6]
    rw [View.readAt_eq_ld arg12.view, View.readAt_eq_ld arg12.view, e11]; rfl
  iapply owns_of_reads c arg12 e11; iexact H11

end Body

end Cert.KernelIdeal.Run

end
-- ==== Proof.KI.NormCall.lean ====
/- The second call over its grid: the table of scales and shifts it computes once, the data the pipeline's rule takes,
   and the body's obligation. The arrays' contents on entry are a parameter. -/
module

public import proofs.«01_k».proof.Proof.KI.Norm
public import Idealize.ShloMosaic.Lib.Claim
public import Idealize.ShloMosaic.Lib.Pipeline.FrameBody
public import Idealize.ShloMosaic.Lib.Ring
public import Idealize.ShloMosaic.Lib.Tactic
public import Idealize.ShloMosaic.Lib.WordCmp
public import Idealize.ShloMosaic.Lib.VecWindow
public import Idealize.ShloMosaic.Lib.WritesUnit

@[expose] public section

set_option maxRecDepth 16384

noncomputable section

namespace Cert.KernelIdeal.Run

open Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F] [Named F]

local notation "𝕄" => MT nD τ sig Unit (Elt F) ℕ (UR sig nD τ) ℕ

/-! ## The second call's data: its arrays as the call finds them, `V` -/

variable (V : (c : Dev nD) → (b : Ref sig .tc) → Buf (Elt F) ((c : Thread nD τ).loc b))

/-- Window `w`'s block at point `t` of the array as the call finds it. -/
def blk1 (c : Dev nD) (w : Fin cfg1.W) (t : Fin cfg1.N) : ((cfg1.win w).xblock (cfg1.grid.coords t)).Idx → Elt F (cfg1.win w).elt :=
  ((cfg1.win w).blk t).view.read (Elt F) (V c (Pipeline.arrRef spec1 w))

/-- The first point. -/
abbrev first1 : Fin cfg1.N := ⟨0, by rw [show cfg1.N = 20 from N_1]; decide⟩

/-- The table of scales and shifts, computed at the first point and kept. -/
def table (c : Dev nD) : Vec F S8x128 .f32 :=
  k1_pay2 (blk1 V c 0 first1) (blk1 V c 1 first1) (blk1 V c 2 first1)

/-- The table's buffer, whole. -/
abbrev tableBuf : Memref sig .tc .vmem S8x128 .f32 := Memref.whole cc1_scratch0

/-- What is held of the table before point `n`: anything before the first, afterwards the table. -/
def tableHeld (c : Dev nD) : ℕ → sProp 𝕄
  | 0 => iprop(∃ d, owns (c : Thread nD τ) tableBuf fullShare d)
  | _ + 1 => owns (c : Thread nD τ) tableBuf fullShare (table V c)

theorem tableHeld_pos (c : Dev nD) (n : ℕ) (hn : n ≠ 0) :
    tableHeld V c n = (owns (c : Thread nD τ) tableBuf fullShare (table V c) : sProp 𝕄) := by
  cases n with
  | zero => exact absurd rfl hn
  | succ n => rfl
theorem tableHeld_succ (c : Dev nD) (n : ℕ) :
    tableHeld V c (n + 1) = (owns (c : Thread nD τ) tableBuf fullShare (table V c) : sProp 𝕄) := rfl
theorem tableHeld_first (c : Dev nD) (n : ℕ) (hn : n = 0) :
    tableHeld V c n = (iprop(∃ d, owns (c : Thread nD τ) tableBuf fullShare d) : sProp 𝕄) := by
  subst hn; rfl

/-- The other call's own buffers, at anything, untouched by this one. -/
abbrev others1 (c : Dev nD) : sProp 𝕄 :=
  Pipeline.scopedRestBut (Ix := Unit) (Name := ℕ) (U := UR sig nD τ) (Lvl := ℕ) (Val := Elt F) spec1 c [cc1_scratch0]

/-- What the call holds beside its windows before point `n`. -/
def beside1 (c : Dev nD) (n : ℕ) (_ : n ≤ cfg1.N) : sProp 𝕄 :=
  iprop((tableHeld V c n ∗ others1 (F := F) c) ∗ (∃ r, prngReg c r))

/-- What the launch hands the call is what it holds before its first point. -/
theorem start1_eq (c : Dev nD) : (Pipeline.ΦA spec1 c : sProp 𝕄) = beside1 V c 0 (Nat.zero_le _) := by
  unfold Pipeline.ΦA beside1
  rw [Pipeline.scopedRest_split_of_list spec1 c [cc1_scratch0] (by decide) (by decide)]
  simp only [tableHeld, tableBuf, owns_whole]
  rfl

/-- The call's data: each input's window keeps its block, each output's holds its own input's block scaled and
    shifted by the table, nothing is owed to another core. -/
def dat1 (c : Dev nD) : Dat τ (Elt F) Unit ℕ (UR sig nD τ) ℕ cfg1 c where
  A w := V c (Pipeline.arrRef spec1 w)
  after w t := match w with
    | ⟨0, _⟩ => blk1 V c 0 t
    | ⟨1, _⟩ => blk1 V c 1 t
    | ⟨2, _⟩ => blk1 V c 2 t
    | ⟨3, _⟩ => blk1 V c 3 t
    | ⟨4, _⟩ => blk1 V c 4 t
    | ⟨5, _⟩ => blk1 V c 5 t
    | ⟨6, _⟩ => blk1 V c 6 t
    | ⟨7, _⟩ => out0 (blk1 V c 3 t) (table V c)
    | ⟨8, _⟩ => out1 (blk1 V c 4 t) (table V c)
    | ⟨9, _⟩ => out2 (blk1 V c 5 t) (table V c)
    | ⟨10, _⟩ => out3 (blk1 V c 6 t) (table V c)
  Φ t := beside1 V c t.val (Nat.le_of_lt_succ t.isLt)
  q _ := fullShare
  owed _ := 0

theorem A_eq1 (c : Dev nD) (w : Fin cfg1.W) : (dat1 V c).A w = V c (Pipeline.arrRef spec1 w) := by
  dsimp only [dat1]

theorem beside1_castSucc (c : Dev nD) (t : Fin cfg1.N) :
    (dat1 V c).Φ t.castSucc = beside1 V c t.val (Nat.le_of_lt t.isLt) := by
  dsimp only [dat1]; exact Pipeline.Dat.Φ_castSucc (beside1 V c) t

theorem after1_0 (c : Dev nD) (t : Fin cfg1.N) : (dat1 V c).after 0 t = blk1 V c 0 t := by dsimp only [dat1]
theorem after1_1 (c : Dev nD) (t : Fin cfg1.N) : (dat1 V c).after 1 t = blk1 V c 1 t := by dsimp only [dat1]
theorem after1_2 (c : Dev nD) (t : Fin cfg1.N) : (dat1 V c).after 2 t = blk1 V c 2 t := by dsimp only [dat1]
theorem after1_3 (c : Dev nD) (t : Fin cfg1.N) : (dat1 V c).after 3 t = blk1 V c 3 t := by dsimp only [dat1]
theorem after1_4 (c : Dev nD) (t : Fin cfg1.N) : (dat1 V c).after 4 t = blk1 V c 4 t := by dsimp only [dat1]
theorem after1_5 (c : Dev nD) (t : Fin cfg1.N) : (dat1 V c).after 5 t = blk1 V c 5 t := by dsimp only [dat1]
theorem after1_6 (c : Dev nD) (t : Fin cfg1.N) : (dat1 V c).after 6 t = blk1 V c 6 t := by dsimp only [dat1]
theorem after1_7 (c : Dev nD) (t : Fin cfg1.N) : (dat1 V c).after 7 t = out0 (blk1 V c 3 t) (table V c) := by dsimp only [dat1]
theorem after1_8 (c : Dev nD) (t : Fin cfg1.N) : (dat1 V c).after 8 t = out1 (blk1 V c 4 t) (table V c) := by dsimp only [dat1]
theorem after1_9 (c : Dev nD) (t : Fin cfg1.N) : (dat1 V c).after 9 t = out2 (blk1 V c 5 t) (table V c) := by dsimp only [dat1]
theorem after1_10 (c : Dev nD) (t : Fin cfg1.N) : (dat1 V c).after 10 t = out3 (blk1 V c 6 t) (table V c) := by dsimp only [dat1]

/-! Each input window holds its block at every point. -/

theorem before1_0 (c : Dev nD) (t : Fin cfg1.N) (d) : (dat1 V c).before 0 t d = blk1 V c 0 t :=
  ((dat1 V c).before_in_eq_fetched 0 rfl (fun _ => rfl) (fun _ _ _ => rfl)
    (fun t => by rw [after1_0]; unfold Dat.blockOf blk1; rw [A_eq1]) t d).trans (by unfold Dat.fetched Dat.blockOf blk1; rw [A_eq1]; rfl)
theorem before1_1 (c : Dev nD) (t : Fin cfg1.N) (d) : (dat1 V c).before 1 t d = blk1 V c 1 t :=
  ((dat1 V c).before_in_eq_fetched 1 rfl (fun _ => rfl) (fun _ _ _ => rfl)
    (fun t => by rw [after1_1]; unfold Dat.blockOf blk1; rw [A_eq1]) t d).trans (by unfold Dat.fetched Dat.blockOf blk1; rw [A_eq1]; rfl)
theorem before1_2 (c : Dev nD) (t : Fin cfg1.N) (d) : (dat1 V c).before 2 t d = blk1 V c 2 t :=
  ((dat1 V c).before_in_eq_fetched 2 rfl (fun _ => rfl) (fun _ _ _ => rfl)
    (fun t => by rw [after1_2]; unfold Dat.blockOf blk1; rw [A_eq1]) t d).trans (by unfold Dat.fetched Dat.blockOf blk1; rw [A_eq1]; rfl)
theorem before1_3 (c : Dev nD) (t : Fin cfg1.N) (d) : (dat1 V c).before 3 t d = blk1 V c 3 t :=
  ((dat1 V c).before_in_eq_fetched 3 rfl (fun _ => rfl) (fun _ _ _ => rfl)
    (fun t => by rw [after1_3]; unfold Dat.blockOf blk1; rw [A_eq1]) t d).trans (by unfold Dat.fetched Dat.blockOf blk1; rw [A_eq1]; rfl)
theorem before1_4 (c : Dev nD) (t : Fin cfg1.N) (d) : (dat1 V c).before 4 t d = blk1 V c 4 t :=
  ((dat1 V c).before_in_eq_fetched 4 rfl (fun _ => rfl) (fun _ _ _ => rfl)
    (fun t => by rw [after1_4]; unfold Dat.blockOf blk1; rw [A_eq1]) t d).trans (by unfold Dat.fetched Dat.blockOf blk1; rw [A_eq1]; rfl)
theorem before1_5 (c : Dev nD) (t : Fin cfg1.N) (d) : (dat1 V c).before 5 t d = blk1 V c 5 t :=
  ((dat1 V c).before_in_eq_fetched 5 rfl (fun _ => rfl) (fun _ _ _ => rfl)
    (fun t => by rw [after1_5]; unfold Dat.blockOf blk1; rw [A_eq1]) t d).trans (by unfold Dat.fetched Dat.blockOf blk1; rw [A_eq1]; rfl)
theorem before1_6 (c : Dev nD) (t : Fin cfg1.N) (d) : (dat1 V c).before 6 t d = blk1 V c 6 t :=
  ((dat1 V c).before_in_eq_fetched 6 rfl (fun _ => rfl) (fun _ _ _ => rfl)
    (fun t => by rw [after1_6]; unfold Dat.blockOf blk1; rw [A_eq1]) t d).trans (by unfold Dat.fetched Dat.blockOf blk1; rw [A_eq1]; rfl)

/-! ## The body at a point -/

abbrev win1At0 (t : Fin cfg1.N) : Memref sig .tc .vmem S8x128 .f32 := win1_0.stage (cfg1.slots t 0)
abbrev win1At1 (t : Fin cfg1.N) : Memref sig .tc .vmem S4x128 .f32 := win1_1.stage (cfg1.slots t 1)
abbrev win1At2 (t : Fin cfg1.N) : Memref sig .tc .vmem S4x128 .f32 := win1_2.stage (cfg1.slots t 2)
abbrev win1At3 (t : Fin cfg1.N) : Memref sig .tc .vmem S5000x128 .f32 := win1_3.stage (cfg1.slots t 3)
abbrev win1At4 (t : Fin cfg1.N) : Memref sig .tc .vmem S5000x128 .f32 := win1_4.stage (cfg1.slots t 4)
abbrev win1At5 (t : Fin cfg1.N) : Memref sig .tc .vmem S5000x128 .f32 := win1_5.stage (cfg1.slots t 5)
abbrev win1At6 (t : Fin cfg1.N) : Memref sig .tc .vmem S5000x128 .f32 := win1_6.stage (cfg1.slots t 6)
abbrev win1At7 (t : Fin cfg1.N) : Memref sig .tc .vmem S5000x128 .f32 := win1_7.stage (cfg1.slots t 7)
abbrev win1At8 (t : Fin cfg1.N) : Memref sig .tc .vmem S5000x128 .f32 := win1_8.stage (cfg1.slots t 8)
abbrev win1At9 (t : Fin cfg1.N) : Memref sig .tc .vmem S5000x128 .f32 := win1_9.stage (cfg1.slots t 9)
abbrev win1At10 (t : Fin cfg1.N) : Memref sig .tc .vmem S5000x128 .f32 := win1_10.stage (cfg1.slots t 10)

/-- What the body is called with at point `t`. -/
def pre1 (c : Dev nD) (t : Fin cfg1.N) : sProp 𝕄 :=
  iprop((dat1 V c).Φ t.castSucc ∗ (dat1 V c).owesAt () t.castSucc
    ∗ (∃ d, owns (c : Thread nD τ) (win1At0 t) fullShare ((dat1 V c).before 0 t d))
    ∗ (∃ d, owns (c : Thread nD τ) (win1At1 t) fullShare ((dat1 V c).before 1 t d))
    ∗ (∃ d, owns (c : Thread nD τ) (win1At2 t) fullShare ((dat1 V c).before 2 t d))
    ∗ (∃ d, owns (c : Thread nD τ) (win1At3 t) fullShare ((dat1 V c).before 3 t d))
    ∗ (∃ d, owns (c : Thread nD τ) (win1At4 t) fullShare ((dat1 V c).before 4 t d))
    ∗ (∃ d, owns (c : Thread nD τ) (win1At5 t) fullShare ((dat1 V c).before 5 t d))
    ∗ (∃ d, owns (c : Thread nD τ) (win1At6 t) fullShare ((dat1 V c).before 6 t d))
    ∗ (∃ d, owns (c : Thread nD τ) (win1At7 t) fullShare ((dat1 V c).before 7 t d))
    ∗ (∃ d, owns (c : Thread nD τ) (win1At8 t) fullShare ((dat1 V c).before 8 t d))
    ∗ (∃ d, owns (c : Thread nD τ) (win1At9 t) fullShare ((dat1 V c).before 9 t d))
    ∗ (∃ d, owns (c : Thread nD τ) (win1At10 t) fullShare ((dat1 V c).before 10 t d)))

/-- What it returns. -/
def post1 (c : Dev nD) (t : Fin cfg1.N) : sProp 𝕄 :=
  iprop((dat1 V c).Φ t.succ ∗ (dat1 V c).owesAt () t.succ
    ∗ (dat1 V c).leavesExact 0 t
    ∗ (dat1 V c).leavesExact 1 t
    ∗ (dat1 V c).leavesExact 2 t
    ∗ (dat1 V c).leavesExact 3 t
    ∗ (dat1 V c).leavesExact 4 t
    ∗ (dat1 V c).leavesExact 5 t
    ∗ (dat1 V c).leavesExact 6 t
    ∗ (dat1 V c).leavesExact 7 t
    ∗ (dat1 V c).leavesExact 8 t
    ∗ (dat1 V c).leavesExact 9 t
    ∗ (dat1 V c).leavesExact 10 t)

theorem leaves1_0 (c : Dev nD) (t : Fin cfg1.N) :
    (dat1 V c).leavesExact 0 t = owns (c : Thread nD τ) (win1At0 t) fullShare (blk1 V c 0 t) := by
  rw [← after1_0]
theorem leaves1_1 (c : Dev nD) (t : Fin cfg1.N) :
    (dat1 V c).leavesExact 1 t = owns (c : Thread nD τ) (win1At1 t) fullShare (blk1 V c 1 t) := by
  rw [← after1_1]
theorem leaves1_2 (c : Dev nD) (t : Fin cfg1.N) :
    (dat1 V c).leavesExact 2 t = owns (c : Thread nD τ) (win1At2 t) fullShare (blk1 V c 2 t) := by
  rw [← after1_2]
theorem leaves1_3 (c : Dev nD) (t : Fin cfg1.N) :
    (dat1 V c).leavesExact 3 t = owns (c : Thread nD τ) (win1At3 t) fullShare (blk1 V c 3 t) := by
  rw [← after1_3]
theorem leaves1_4 (c : Dev nD) (t : Fin cfg1.N) :
    (dat1 V c).leavesExact 4 t = owns (c : Thread nD τ) (win1At4 t) fullShare (blk1 V c 4 t) := by
  rw [← after1_4]
theorem leaves1_5 (c : Dev nD) (t : Fin cfg1.N) :
    (dat1 V c).leavesExact 5 t = owns (c : Thread nD τ) (win1At5 t) fullShare (blk1 V c 5 t) := by
  rw [← after1_5]
theorem leaves1_6 (c : Dev nD) (t : Fin cfg1.N) :
    (dat1 V c).leavesExact 6 t = owns (c : Thread nD τ) (win1At6 t) fullShare (blk1 V c 6 t) := by
  rw [← after1_6]
theorem leaves1_7 (c : Dev nD) (t : Fin cfg1.N) :
    (dat1 V c).leavesExact 7 t = owns (c : Thread nD τ) (win1At7 t) fullShare (out0 (blk1 V c 3 t) (table V c)) := by
  rw [← after1_7]
theorem leaves1_8 (c : Dev nD) (t : Fin cfg1.N) :
    (dat1 V c).leavesExact 8 t = owns (c : Thread nD τ) (win1At8 t) fullShare (out1 (blk1 V c 4 t) (table V c)) := by
  rw [← after1_8]
theorem leaves1_9 (c : Dev nD) (t : Fin cfg1.N) :
    (dat1 V c).leavesExact 9 t = owns (c : Thread nD τ) (win1At9 t) fullShare (out2 (blk1 V c 5 t) (table V c)) := by
  rw [← after1_9]
theorem leaves1_10 (c : Dev nD) (t : Fin cfg1.N) :
    (dat1 V c).leavesExact 10 t = owns (c : Thread nD τ) (win1At10 t) fullShare (out3 (blk1 V c 6 t) (table V c)) := by
  rw [← after1_10]

theorem table_first (c : Dev nD) (t : Fin cfg1.N) (h : t.val = 0) : table V c = (k1_pay2 (blk1 V c 0 t) (blk1 V c 1 t) (blk1 V c 2 t)) := by
  obtain rfl : t = first1 := Fin.ext h
  rfl

set_option maxHeartbeats 1600000 in
/-- The body at any point. -/
theorem sound1 (c : Dev nD) (t : Fin cfg1.N) :
    pre1 V c t ⊢ wp frame (wpE (defs₀ (F := F)) Variants.none c none) Set.univ (bodyAt1 t) (fun _ => post1 V c t) := by
  unfold pre1 post1 bodyAt1
  simp only [before1_0, before1_1, before1_2, before1_3, before1_4, before1_5, before1_6]
  rw [show (dat1 V c).owesAt () t.succ = (dat1 V c).owesAt () t.castSucc from rfl,
    show (dat1 V c).Φ t.succ = beside1 V c (t.val + 1) t.isLt from rfl, beside1_castSucc,
    leaves1_0, leaves1_1, leaves1_2, leaves1_3, leaves1_4, leaves1_5, leaves1_6, leaves1_7, leaves1_8, leaves1_9, leaves1_10]
  unfold beside1
  rw [tableHeld_succ]
  by_cases h0 : t.val = 0
  · have hs := (atStart1_iff t).mpr h0
    rw [tableHeld_first V c _ h0, table_first V c t h0]
    iintro ⟨⟨⟨HS, Hr⟩, Hg⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩⟩
    iapply body1_start c (grid1.coords t) _ _ _ _ _ _ _ _ _ _ _ _ _ _ _ _ _ _ _ _ _ _ _ _ (blk1 V c 0 t) (blk1 V c 1 t) (blk1 V c 2 t) (blk1 V c 3 t) (blk1 V c 4 t) (blk1 V c 5 t) (blk1 V c 6 t) hs
    isplitl [H0 H1 H2 H3 H4 H5 H6]
    · isplitl [H0]; · iexact H0
      isplitl [H1]; · iexact H1
      isplitl [H2]; · iexact H2
      isplitl [H3]; · iexact H3
      isplitl [H4]; · iexact H4
      isplitl [H5]; · iexact H5
      iexact H6
    isplitl [H7]; · iexists _; iexact H7
    isplitl [H8]; · iexists _; iexact H8
    isplitl [H9]; · iexists _; iexact H9
    isplitl [H10]; · iexists _; iexact H10
    isplitl [HS]; · iexact HS
    iintro ⟨⟨H0, H1, H2, H3, H4, H5, H6⟩, H7, H8, H9, H10, HS⟩
    isplitl [HS Hr Hg]
    · isplitl [HS Hr]
      · isplitl [HS]; · iexact HS
        iexact Hr
      iexact Hg
    isplitl [Ho]; · iexact Ho
    isplitl [H0]; · iexact H0
    isplitl [H1]; · iexact H1
    isplitl [H2]; · iexact H2
    isplitl [H3]; · iexact H3
    isplitl [H4]; · iexact H4
    isplitl [H5]; · iexact H5
    isplitl [H6]; · iexact H6
    isplitl [H7]; · iexact H7
    isplitl [H8]; · iexact H8
    isplitl [H9]; · iexact H9
    iexact H10

  · have hs : ¬atStart1 (grid1.coords t) := fun h => h0 ((atStart1_iff t).mp h)
    rw [tableHeld_pos V c _ h0]
    iintro ⟨⟨⟨HS, Hr⟩, Hg⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩⟩
    iapply body1_later c (grid1.coords t) _ _ _ _ _ _ _ _ _ _ _ _ _ _ _ _ _ _ _ _ _ _ _ _ (blk1 V c 0 t) (blk1 V c 1 t) (blk1 V c 2 t) (blk1 V c 3 t) (blk1 V c 4 t) (blk1 V c 5 t) (blk1 V c 6 t) hs (table V c)
    isplitl [H0 H1 H2 H3 H4 H5 H6]
    · isplitl [H0]; · iexact H0
      isplitl [H1]; · iexact H1
      isplitl [H2]; · iexact H2
      isplitl [H3]; · iexact H3
      isplitl [H4]; · iexact H4
      isplitl [H5]; · iexact H5
      iexact H6
    isplitl [H7]; · iexists _; iexact H7
    isplitl [H8]; · iexists _; iexact H8
    isplitl [H9]; · iexists _; iexact H9
    isplitl [H10]; · iexists _; iexact H10
    isplitl [HS]; · iexact HS
    iintro ⟨⟨H0, H1, H2, H3, H4, H5, H6⟩, H7, H8, H9, H10, HS⟩
    isplitl [HS Hr Hg]
    · isplitl [HS Hr]
      · isplitl [HS]; · iexact HS
        iexact Hr
      iexact Hg
    isplitl [Ho]; · iexact Ho
    isplitl [H0]; · iexact H0
    isplitl [H1]; · iexact H1
    isplitl [H2]; · iexact H2
    isplitl [H3]; · iexact H3
    isplitl [H4]; · iexact H4
    isplitl [H5]; · iexact H5
    isplitl [H6]; · iexact H6
    isplitl [H7]; · iexact H7
    isplitl [H8]; · iexact H8
    isplitl [H9]; · iexact H9
    iexact H10

theorem row1 (t : Fin cfg1.N) : defs₀ (F := F) .tc cfg1.body (cfg1.bodyArgs t (cfg1.slots t)) = bodyAt1 t := by
  unfold defs₀; rw [Defs.onTc_tc]

/-- The second call's body meets its data at every point. -/
theorem obligation1 (c : Dev nD) : BodyObligation (dat1 V c) (defs₀ (F := F)) Variants.none () Set.univ := fun t => by
  rw [bigSep_W1, bigSep_W1, row1]
  exact triple_restated (sound1 V c t) rfl .rfl fun _ => .rfl

/-- What the launch hands the call is what it starts from, -/
theorem enter1 (c : Dev nD) : (Pipeline.ΦA spec1 c : sProp 𝕄) ⊢ (dat1 V c).Φ 0 := by
  rw [start1_eq V c]; exact .rfl

/-- and what it ends with gives that back, the table's contents forgotten. -/
theorem leave1 (c : Dev nD) : (dat1 V c).Φ (Fin.last cfg1.N) ⊢ (Pipeline.ΦA spec1 c : sProp 𝕄) := by
  rw [start1_eq V c, show (dat1 V c).Φ (Fin.last cfg1.N) = beside1 V c cfg1.N (Nat.le_refl _) from rfl]
  unfold beside1
  rw [tableHeld_pos V c cfg1.N (by rw [show cfg1.N = 20 from N_1]; decide), tableHeld_first V c 0 rfl]
  iintro ⟨⟨HS, Hr⟩, Hg⟩
  isplitl [HS Hr]
  · isplitl [HS]; · iexists _; iexact HS
    iexact Hr
  iexact Hg

end Cert.KernelIdeal.Run

end
-- ==== Proof.KI.Run.lean ====
/- The launch of the two calls: the buffers before, between and after them, and what a run ends with. -/
module

public import proofs.«01_k».proof.Proof.KI.StatsCall
public import proofs.«01_k».proof.Proof.KI.NormCall
public import Idealize.ShloMosaic.Lib.Pipeline.RegionsLoop
public import Idealize.ShloMosaic.Lib.Pipeline.FrameSuffix
public import Idealize.ShloMosaic.Lib.Claim
public import Idealize.ShloMosaic.Lib.Pipeline.FrameBody
public import Idealize.ShloMosaic.Lib.Ring
public import Idealize.ShloMosaic.Lib.Tactic
public import Idealize.ShloMosaic.Lib.WordCmp
public import Idealize.ShloMosaic.Lib.VecWindow
public import Idealize.ShloMosaic.Lib.WritesUnit

@[expose] public section

set_option maxRecDepth 16384

noncomputable section

namespace Cert.KernelIdeal.Run

open Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F] [Named F]

local notation "𝕄" => MT nD τ sig Unit (Elt F) ℕ (UR sig nD τ) ℕ

variable (m : (ℓ : Loc nD τ sig) → Buf (Elt F) ℓ) (ρ : Dev nD → PrngReg)

/-- The state at launch. -/
def s₀ : MemSt nD τ sig (Elt F) := ⟨m, fun _ => 0, ρ⟩

/-- The program's argument arrays. -/
abbrev argRefs : List (Ref sig .tc) := [main_arg0, main_arg1, main_arg2, main_arg3, main_arg4, main_arg5]

/-- The buffers as launched. -/
abbrev W0 : Dev nD → Valuation τ sig (Elt F) := fun c b => (s₀ m ρ).mem ((c : Dev nD), b)
theorem W0_args (c : Dev nD) : ∀ a ∈ argRefs, W0 m ρ c (Proc.devRef .tc a) = m ((c : Thread nD τ).loc a) := fun _ _ => rfl
/-- The same, at the core's references. -/
abbrev V0 : (c : Dev nD) → (b : Ref sig .tc) → Buf (Elt F) ((c : Thread nD τ).loc b) := fun c b => W0 m ρ c b
/-- The buffers after the first call: its arrays as its write-backs leave them, the rest as launched. -/
def W1 (c : Dev nD) : Valuation τ sig (Elt F) :=
  Pipeline.withArrays spec0 c (W0 m ρ c) fun w => (dat0 (V0 m ρ) c).arrAt w cfg0.N
theorem W1_arr (c : Dev nD) (w : Fin cfg0.W) :
    W1 m ρ c (Proc.devRef .tc (Pipeline.arrRef spec0 w)) = (dat0 (V0 m ρ) c).arrAt w cfg0.N := by
  unfold W1; exact Pipeline.withArrays_arr spec0 launch0.win.arr_inj c _ _ w
theorem W1_of_ne (c : Dev nD) (b : Ref sig .tc) (hb : ∀ w, Pipeline.arrRef spec0 w ≠ b) :
    W1 m ρ c (Proc.devRef .tc b) = W0 m ρ c (Proc.devRef .tc b) := by
  unfold W1; exact Pipeline.withArrays_of_ne spec0 c _ _ b hb
/-- A buffer the first call does not write is as launched after it. -/
theorem W1_of (c : Dev nD) (r : Ref sig .tc) (h : ∀ w : Fin cfg0.W, Pipeline.arrRef spec0 w = r → (cfg0.win w).isOut = false) :
    W1 m ρ c (Proc.devRef .tc r) = W0 m ρ c (Proc.devRef .tc r) := by
  by_cases hw : ∃ w : Fin cfg0.W, Pipeline.arrRef spec0 w = r
  · obtain ⟨w, rfl⟩ := hw
    exact (W1_arr m ρ c w).trans (((dat0 (V0 m ρ) c).arrAt_in w (h w rfl) _).trans (A_eq0 (V0 m ρ) c w))
  · exact W1_of_ne m ρ c r fun w e => hw ⟨w, e⟩
/-- No argument is among what the first call writes, -/
theorem argsIn0 : ∀ a ∈ argRefs, ∀ w : Fin cfg0.W, Pipeline.arrRef spec0 w = a → (cfg0.win w).isOut = false :=
  ListAll.forall_mem_of_all_decide (by decide +kernel)
theorem W1_args (c : Dev nD) : ∀ a ∈ argRefs, W1 m ρ c (Proc.devRef .tc a) = m ((c : Thread nD τ).loc a) :=
  fun a ha => (W1_of m ρ c a (argsIn0 a ha)).trans (W0_args m ρ c a ha)
/-- The same, at the core's references. -/
abbrev V1 : (c : Dev nD) → (b : Ref sig .tc) → Buf (Elt F) ((c : Thread nD τ).loc b) := fun c b => W1 m ρ c b
theorem hF0 (c : Dev nD) (w : Fin cfg0.W) : (dat0 (V0 m ρ) c).arrAt w cfg0.N = V1 m ρ c (Pipeline.arrRef spec0 w) :=
  (W1_arr m ρ c w).symm
theorem hrest0 (c : Dev nD) : ∀ b, b ∉ Finset.univ.image (Pipeline.arrRef spec0) → V1 m ρ c b = V0 m ρ c b :=
  fun b hb => W1_of_ne m ρ c b fun w e => hb (Finset.mem_image.mpr ⟨w, Finset.mem_univ _, e⟩)

/-- The buffers after the second call. -/
def W2 (c : Dev nD) : Valuation τ sig (Elt F) :=
  Pipeline.withArrays spec1 c (W1 m ρ c) fun w => (dat1 (V1 m ρ) c).arrAt w cfg1.N
theorem W2_arr (c : Dev nD) (w : Fin cfg1.W) :
    W2 m ρ c (Proc.devRef .tc (Pipeline.arrRef spec1 w)) = (dat1 (V1 m ρ) c).arrAt w cfg1.N := by
  unfold W2; exact Pipeline.withArrays_arr spec1 launch1.win.arr_inj c _ _ w
theorem W2_of_ne (c : Dev nD) (b : Ref sig .tc) (hb : ∀ w, Pipeline.arrRef spec1 w ≠ b) :
    W2 m ρ c (Proc.devRef .tc b) = W1 m ρ c (Proc.devRef .tc b) := by
  unfold W2; exact Pipeline.withArrays_of_ne spec1 c _ _ b hb
/-- A buffer the second call does not write keeps its contents across it. -/
theorem W2_of (c : Dev nD) (r : Ref sig .tc) (h : ∀ w : Fin cfg1.W, Pipeline.arrRef spec1 w = r → (cfg1.win w).isOut = false) :
    W2 m ρ c (Proc.devRef .tc r) = W1 m ρ c (Proc.devRef .tc r) := by
  by_cases hw : ∃ w : Fin cfg1.W, Pipeline.arrRef spec1 w = r
  · obtain ⟨w, rfl⟩ := hw
    exact (W2_arr m ρ c w).trans (((dat1 (V1 m ρ) c).arrAt_in w (h w rfl) _).trans (A_eq1 (V1 m ρ) c w))
  · exact W2_of_ne m ρ c r fun w e => hw ⟨w, e⟩
/-- nor among what the second writes. -/
theorem argsIn1 : ∀ a ∈ argRefs, ∀ w : Fin cfg1.W, Pipeline.arrRef spec1 w = a → (cfg1.win w).isOut = false :=
  ListAll.forall_mem_of_all_decide (by decide +kernel)
theorem W2_args (c : Dev nD) : ∀ a ∈ argRefs, W2 m ρ c (Proc.devRef .tc a) = m ((c : Thread nD τ).loc a) :=
  fun a ha => (W2_of m ρ c a (argsIn1 a ha)).trans (W1_args m ρ c a ha)
/-- The same, at the core's references. -/
abbrev V2 : (c : Dev nD) → (b : Ref sig .tc) → Buf (Elt F) ((c : Thread nD τ).loc b) := fun c b => W2 m ρ c b
theorem hF1 (c : Dev nD) (w : Fin cfg1.W) : (dat1 (V1 m ρ) c).arrAt w cfg1.N = V2 m ρ c (Pipeline.arrRef spec1 w) :=
  (W2_arr m ρ c w).symm
theorem hrest1 (c : Dev nD) : ∀ b, b ∉ Finset.univ.image (Pipeline.arrRef spec1) → V2 m ρ c b = V1 m ρ c b :=
  fun b hb => W2_of_ne m ρ c b fun w e => hb (Finset.mem_image.mpr ⟨w, Finset.mem_univ _, e⟩)

theorem W2_main_arg0 (c : Dev nD) : W2 m ρ c (Proc.devRef .tc main_arg0) = m ((c : Thread nD τ).loc main_arg0) :=
  W2_args m ρ c main_arg0 (by decide)
theorem W2_main_arg1 (c : Dev nD) : W2 m ρ c (Proc.devRef .tc main_arg1) = m ((c : Thread nD τ).loc main_arg1) :=
  W2_args m ρ c main_arg1 (by decide)
theorem W2_main_arg2 (c : Dev nD) : W2 m ρ c (Proc.devRef .tc main_arg2) = m ((c : Thread nD τ).loc main_arg2) :=
  W2_args m ρ c main_arg2 (by decide)
theorem W2_main_arg3 (c : Dev nD) : W2 m ρ c (Proc.devRef .tc main_arg3) = m ((c : Thread nD τ).loc main_arg3) :=
  W2_args m ρ c main_arg3 (by decide)
theorem W2_main_arg4 (c : Dev nD) : W2 m ρ c (Proc.devRef .tc main_arg4) = m ((c : Thread nD τ).loc main_arg4) :=
  W2_args m ρ c main_arg4 (by decide)
theorem W2_main_arg5 (c : Dev nD) : W2 m ρ c (Proc.devRef .tc main_arg5) = m ((c : Thread nD τ).loc main_arg5) :=
  W2_args m ρ c main_arg5 (by decide)

/-- Neither call prefetches a table. -/
abbrev adm : (p : Fin 2) → (pcfgs (F := F) p).Adm := fun p => (cfgs p).toPCfg_adm
/-- Each call's data at the contents it is entered with. -/
def pdats : (p : Fin 2) → (c : Dev nD) → Dat τ (Elt F) Unit ℕ (UR sig nD τ) ℕ (Pipeline.pin (pcfgs (F := F)) adm p) c
  | ⟨0, _⟩ => fun c => dat0 (V0 m ρ) c
  | ⟨1, _⟩ => fun c => dat1 (V1 m ρ) c
abbrev 𝒱₀ : Variants := Variants.none
/-- Nothing is owed between cores. -/
abbrev L : GSem nD τ sig → Finset Unit := fun _ => ∅
abbrev lv : GSem nD τ sig → Unit → ℕ := fun _ _ => 0
/-- What rides along with the buffers: the random-number register, and no debt. -/
abbrev R (c : Dev nD) : sProp 𝕄 := iprop((∃ r, prngReg c r) ∗ ∃ W, owes (c : Thread nD τ) (0 : CellTallies nD τ sig Unit) W)

/-- An array outside the calls' own storage is among those held. -/
theorem mem_uc (b : Ref sig .tc) (h : ¬ (Proc.devRef .tc b : DevRef τ sig).isScoped) : Proc.devRef .tc b ∈ Pipeline.ucRefs τ sig :=
  Finset.mem_filter.mpr ⟨StableHlo.devRef_mem_tcRefs b, h⟩
/-- What is held at the end. -/
abbrev Tₙ (c : Dev nD) : sProp 𝕄 := iprop(StableHlo.held (c : Thread nD τ) (Pipeline.ucRefs τ sig) (W2 m ρ c) ∗ ∃ r, prngReg c r)

set_option backward.isDefEq.respectTransparency.types false in
/-- The first call between its two states of the buffers. -/
def reg0 : Pipeline.RegionSeg (pcfgs (F := F)) adm (pdats m ρ) () defs₀ 𝒱₀ L lv 0 where
  win := launch0.win.to₀
  block_pos := launch0.block_pos
  stage_whole := launch0.stage_whole
  K := PEmpty
  osem k := k.elim
  ho := Pipeline.OwnSemFacts.none _
  hbody c := (obligation0 (V0 m ρ) c).loose
  hwaits := Pipeline.hwaits_of_owed_zero _ _ _ _ L lv 0 fun _ _ => rfl
  pre c := iprop(StableHlo.held (c : Thread nD τ) (Pipeline.ucRefs τ sig) (W0 m ρ c) ∗ R c)
  post c := iprop(StableHlo.held (c : Thread nD τ) (Pipeline.ucRefs τ sig) (W1 m ρ c) ∗ R c)
  X c := iprop(∃ r, prngReg c r)
  Y c := iprop(∃ r, prngReg c r)
  Z c := Pipeline.unscopedRest (Ix := Unit) (Name := ℕ) (U := UR sig nD τ) (Lvl := ℕ) spec0 c (V0 m ρ c)
  hentry c := by
    rw [Pipeline.ownSems0_none]
    have hsplit := Pipeline.arrays_of_unscopedBufs (p := 0) (pcfgs (F := F)) adm (pdats m ρ) launch0.win launch0.arr_whole c
      ((pdats m ρ 0 c).share_full fun _ => rfl) (V0 m ρ c) (A_eq0 (V0 m ρ) c)
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    have h : (Pipeline.ΦA spec0 c : sProp 𝕄) ⊢ (pdats m ρ 0 c).Φ 0 := enter0 (V0 m ρ) c
    unfold Pipeline.ΦA at h
    iintro ⟨Hp, -, Hr⟩
    iapply h
    isplitl [Hr]; · iexact Hr
    iexact Hp
  hout c := by
    have h : (pdats m ρ 0 c).Φ (Fin.last cfg0.N) ⊢ (Pipeline.ΦA spec0 c : sProp 𝕄) := leave0 (V0 m ρ) c
    unfold Pipeline.ΦA at h
    rw [Pipeline.ownSems0_none]
    iintro H
    ihave H := h $$ H
    icases H with ⟨Hr, Hp⟩
    isplitl [Hp]; · iexact Hp
    isplitr; · iempintro
    iexact Hr
  hexit c := by
    have hjoin := Pipeline.unscopedBufs_of_arrays (p := 0) (pcfgs (F := F)) adm (Ix := Unit) (Name := ℕ) (U := UR sig nD τ) (Lvl := ℕ)
      launch0.win launch0.arr_whole c (pdats m ρ) ((pdats m ρ 0 c).share_full fun _ => rfl)
      (V0 m ρ c) (V1 m ρ c) ((pdats m ρ 0 c).arrAt · cfg0.N) (hF0 m ρ c) (hrest0 m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
/-- The second call between its two states of the buffers. -/
def reg1 : Pipeline.RegionSeg (pcfgs (F := F)) adm (pdats m ρ) () defs₀ 𝒱₀ L lv 1 where
  win := launch1.win.to₀
  block_pos := launch1.block_pos
  stage_whole := launch1.stage_whole
  K := PEmpty
  osem k := k.elim
  ho := Pipeline.OwnSemFacts.none _
  hbody c := (obligation1 (V1 m ρ) c).loose
  hwaits := Pipeline.hwaits_of_owed_zero _ _ _ _ L lv 1 fun _ _ => rfl
  pre c := iprop(StableHlo.held (c : Thread nD τ) (Pipeline.ucRefs τ sig) (W1 m ρ c) ∗ R c)
  post c := iprop(Tₙ m ρ c ∗ ∃ W, owes (c : Thread nD τ) (0 : CellTallies nD τ sig Unit) W)
  X c := iprop(∃ r, prngReg c r)
  Y c := iprop(∃ r, prngReg c r)
  Z c := Pipeline.unscopedRest (Ix := Unit) (Name := ℕ) (U := UR sig nD τ) (Lvl := ℕ) spec1 c (V1 m ρ c)
  hentry c := by
    rw [Pipeline.ownSems0_none]
    have hsplit := Pipeline.arrays_of_unscopedBufs (p := 1) (pcfgs (F := F)) adm (pdats m ρ) launch1.win launch1.arr_whole c
      ((pdats m ρ 1 c).share_full fun _ => rfl) (V1 m ρ c) (A_eq1 (V1 m ρ) c)
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    have h : (Pipeline.ΦA spec1 c : sProp 𝕄) ⊢ (pdats m ρ 1 c).Φ 0 := enter1 (V1 m ρ) c
    unfold Pipeline.ΦA at h
    iintro ⟨Hp, -, Hr⟩
    iapply h
    isplitl [Hr]; · iexact Hr
    iexact Hp
  hout c := by
    have h : (pdats m ρ 1 c).Φ (Fin.last cfg1.N) ⊢ (Pipeline.ΦA spec1 c : sProp 𝕄) := leave1 (V1 m ρ) c
    unfold Pipeline.ΦA at h
    rw [Pipeline.ownSems0_none]
    iintro H
    ihave H := h $$ H
    icases H with ⟨Hr, Hp⟩
    isplitl [Hp]; · iexact Hp
    isplitr; · iempintro
    iexact Hr
  hexit c := by
    have hjoin := Pipeline.unscopedBufs_of_arrays (p := 1) (pcfgs (F := F)) adm (Ix := Unit) (Name := ℕ) (U := UR sig nD τ) (Lvl := ℕ)
      launch1.win launch1.arr_whole c (pdats m ρ) ((pdats m ρ 1 c).share_full fun _ => rfl)
      (V1 m ρ c) (V2 m ρ c) ((pdats m ρ 1 c).arrAt · cfg1.N) (hF1 m ρ c) (hrest1 m ρ c)
    rw [Pipeline.unscopedBufs_held] at hjoin
    iintro ⟨Ha, HO, HY, Hrest⟩
    imodintro
    isplitl [Ha Hrest HY]
    · isplitl [Ha Hrest]
      · iapply hjoin; isplitl [Ha] <;> iassumption
      iexact HY
    unfold Pipeline.Dat.owesAt Pipeline.owesWithin
    icases HO with ⟨%W, -, HO⟩; iexists W; iexact HO

/-- The program as its two calls. -/
abbrev segs : List (Pipeline.Seg (pcfgs (F := F)) adm (pdats m ρ) () defs₀ 𝒱₀ L lv) :=
  [ .region (reg0 m ρ),
    .region (reg1 m ρ) ]
theorem main_run (c : Dev nD) : main (F := F) c = Pipeline.Seg.run (segs m ρ) := (main_chain c).trans (by chain_rfl)

/-- Every semaphore belongs to a call. -/
theorem no_unscoped : ∀ sm : SemLoc sig, sm.isScoped .tc = true := by decide

set_option backward.isDefEq.respectTransparency.types false in
/-- Every run ends, nothing faulting, with every array at the contents the two calls leave it and every semaphore at
    zero. -/
theorem ends : θ_run defs (onTc (τ := τ) (main (F := F))) ⟨m, fun _ => 0, ρ⟩ (fun r =>
      (∀ c : Dev nD, ∀ b ∈ Pipeline.ucRefs τ sig, r.2.mem (((c : Thread nD τ)).1, b) = W2 m ρ c b) ∧ r.2.sem = fun _ => 0) :=
  Pipeline.θ_run_regions_kit_sems (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W2 m ρ c b)
    (hfin := fun c s' => by
      iintro ⟨⟨Hh, -⟩, HSI⟩
      unfold StableHlo.held
      imodintro
      iapply (pointsTo_read_all (Pipeline.ucRefs τ sig) (fun b => (((c : Thread nD τ)).1, b)) (W2 m ρ c) s')
      isplitl [Hh] <;> iassumption)
    (hQ := fun s h hz => ⟨h, funext fun g => hz g (.inr (no_unscoped g.2))⟩)

/-- The arguments end as launched and every semaphore at zero. -/
theorem unchanged : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5))
      ∧ r.2.sem = fun _ => 0) :=
  (θ_run defs _ _).mono (fun _ h => ⟨fun c => ⟨(h.1 c _ (mem_uc main_arg0 (by decide))).trans (W2_main_arg0 m ρ c),
    (h.1 c _ (mem_uc main_arg1 (by decide))).trans (W2_main_arg1 m ρ c),
    (h.1 c _ (mem_uc main_arg2 (by decide))).trans (W2_main_arg2 m ρ c),
    (h.1 c _ (mem_uc main_arg3 (by decide))).trans (W2_main_arg3 m ρ c),
    (h.1 c _ (mem_uc main_arg4 (by decide))).trans (W2_main_arg4 m ρ c),
    (h.1 c _ (mem_uc main_arg5 (by decide))).trans (W2_main_arg5 m ρ c)⟩, h.2⟩) (ends m ρ)

end Cert.KernelIdeal.Run

end
-- ==== Proof.Val.Consts.lean ====
/- The float constants the two programs spell, as the extended reals they denote over the reals. -/
module

public import Idealize.ShloMosaic.PureOps.Ideal
public import Idealize.ShloMosaic.PureOps.IdealRules
public import proofs.«01_k».proof.KernelIdeal

@[expose] public section

noncomputable section

namespace Cert.Consts

open Idealize.ShloMosaic

/-- The zero word denotes 0. -/
theorem zero_word : Ideal.ofBits .f32 0x00000000#32 = 0 := by
  simp [Ideal.ofBits, Ideal.ieee]

/-- The word of 1.0 denotes 1. -/
theorem one_word : Ideal.ofBits .f32 0x3F800000#32 = ((1 : ℝ) : EReal) := by
  simp [Ideal.ofBits, Ideal.ieee, -EReal.coe_mul]; norm_num

/-- The word of 100000.0 denotes the number of rows. -/
theorem rows_word : Ideal.ofBits .f32 0x47C35000#32 = ((100000 : ℝ) : EReal) := by
  simp [Ideal.ofBits, Ideal.ieee, -EReal.coe_mul]; norm_num

/-- The word of plus infinity denotes the top element. -/
theorem top_word : Ideal.ofBits .f32 0x7F800000#32 = ⊤ := by
  simp [Ideal.ofBits, Ideal.ieee]

/-- The kernel's named constant denotes one over the number of rows. -/
theorem inv_rows : (Named.named Cert.KernelIdeal.κ "inv_n" 0x3727C5AC#32 : Ideal .f32) = ((100000⁻¹ : ℝ) : EReal) :=
  IdealRules.named_const.ideal_named_scalar _ _ _ _ rfl

end Cert.Consts

end
-- ==== Proof.Val.Finite.lean ====
/- What the precondition says over the reals: every entry of the four matrices and of the weights is a real number. -/
module

public import proofs.«01_k».proof.Pre_finite_inputs
public import proofs.«01_k».proof.Proof.Gen.Pre_finite_inputs
public import proofs.«01_k».proof.Proof.Val.Consts
public import Idealize.ShloMosaic.Lib.ReduceAll
public import Idealize.ShloMosaic.Lib.Affine

@[expose] public section

noncomputable section

namespace Cert.Finite

open Cert.Pre_finite_inputs Cert.Pre_finite_inputs.Facts Idealize.ShloMosaic

instance : Subsingleton S_.Idx := ⟨fun a b => funext fun k => k.elim0⟩

/-- A number of absolute value below the greatest is real. -/
theorem real_of_abs_lt {x : EReal} (h : max x (-x) < ⊤) : ∃ ξ : ℝ, x = (ξ : EReal) := by
  have h1 : x ≠ ⊤ := fun e => absurd h (by rw [e]; simp)
  have h2 : x ≠ ⊥ := fun e => absurd h (by rw [e]; simp)
  exact ⟨x.toReal, (EReal.coe_toReal h1 h2).symm⟩

/-- An entry that passes the printed test is real. -/
theorem real_of_test {s : Shape} (x : FVec Ideal s .f32) (hb : S_.BroadcastsInDim s (![] : Fin 0 → Fin s.rank)) (i : s.Idx)
    (h : cmpf .olt (Host.absf x) (broadcastInDim s ![] hb (constant (F := Ideal) S_ .f32 0x7F800000#32)) i = 1#1) :
    ∃ ξ : ℝ, x i = (ξ : EReal) := by
  refine real_of_abs_lt (Classical.by_contradiction fun hn => ?_)
  have e : BitVec.ofBool (decide (max (x i) (-(x i)) < Ideal.ofBits .f32 0x7F800000#32)) = 1#1 := h
  rw [Consts.top_word, decide_eq_false hn] at e
  exact absurd e (by decide)

/-- An array every entry of which passes the test has real entries. -/
theorem real_of_all {s : Shape} (x : FVec Ideal s .f32) (hb : S_.BroadcastsInDim s (![] : Fin 0 → Fin s.rank))
    {axes : List (Fin s.rank)} (hr : s.ReducesTo axes S_) (hu : 0 < S_.numel) (j : S_.Idx)
    (h : Host.reduce IntOp.andi (cmpf .olt (Host.absf x) (broadcastInDim s ![] hb (constant (F := Ideal) S_ .f32 0x7F800000#32)))
      (constantI S_ 1 1#1) hr hu j = 1#1) (i : s.Idx) : ∃ ξ : ℝ, x i = (ξ : EReal) :=
  real_of_test x hb i (Host.reduce_andi_all _ _ hr hu j h i)

variable [Pre_finite_inputs.Facts]

/-- The precondition: the matrices' entries and the weights are real. -/
theorem real_inputs (x0 x1 x2 x3 : FVec Ideal S100000x128 .f32) (w b : FVec Ideal S4x128 .f32) (j : S_.Idx)
    (h : fn (F := Ideal) x0 x1 x2 x3 w b j = 1#1) :
    (∀ i, ∃ ξ : ℝ, w i = (ξ : EReal)) ∧ (∀ i, ∃ ξ : ℝ, x0 i = (ξ : EReal)) ∧ (∀ i, ∃ ξ : ℝ, x1 i = (ξ : EReal))
      ∧ (∀ i, ∃ ξ : ℝ, x2 i = (ξ : EReal)) ∧ (∀ i, ∃ ξ : ℝ, x3 i = (ξ : EReal)) := by
  obtain ⟨h3, t3⟩ := IntOp.andi_eq_one.1 (show IntOp.andi _ _ = 1#1 from h)
  obtain ⟨h2, t2⟩ := IntOp.andi_eq_one.1 (show IntOp.andi _ _ = 1#1 from h3)
  obtain ⟨h1, t1⟩ := IntOp.andi_eq_one.1 (show IntOp.andi _ _ = 1#1 from h2)
  obtain ⟨tw, t0⟩ := IntOp.andi_eq_one.1 (show IntOp.andi _ _ = 1#1 from h1)
  exact ⟨real_of_all w _ _ _ j tw, real_of_all x0 _ _ _ j t0, real_of_all x1 _ _ _ j t1, real_of_all x2 _ _ _ j t2,
    real_of_all x3 _ _ _ j t3⟩

end Cert.Finite

end
-- ==== Proof.Val.Pay.lean ====
/- The two calls' computed values over the reals, at one entry: a step of the running sums, their total, the table of scales
   and shifts, and an output. -/
module

public import proofs.«01_k».proof.Proof.KI.StatsCall
public import proofs.«01_k».proof.Proof.KI.NormCall
public import proofs.«01_k».proof.Proof.Val.Consts
public import Idealize.ShloMosaic.Lib.Pointwise
public import Idealize.ShloMosaic.Lib.Pipeline.ValueKit.Tiles

@[expose] public section

set_option maxRecDepth 16384

noncomputable section

namespace Cert.KernelIdeal.Run

open Cert.KernelIdeal.Gen
open Idealize.ShloMosaic Idealize.ShloMosaic.TcCoe Idealize.ShloMosaic.Tactic

/-- What row `j` of the table of sums adds up: the entries of matrix `j` for the first four rows, the squares of those of
    matrix `j - 4` for the last four. -/
def summand {α : Type} (x0 x1 x2 x3 : α → EReal) (j : Fin 8) (i : α) : EReal :=
  (![x0 i, x1 i, x2 i, x3 i, x0 i * x0 i, x1 i * x1 i, x2 i * x2 i, x3 i * x3 i] : Fin 8 → EReal) j

/-- A step of the running sums adds the block's rows of one residue modulo 8. -/
theorem accStep_apply (x0 x1 x2 x3 : Vec Ideal S10000x128 .f32) (s : Vec Ideal S8x8x128 .f32) (j q : Fin 8) (d : Fin 128) :
    accStep x0 x1 x2 x3 s (ValueIdx.ix3 j q d)
      = s (ValueIdx.ix3 j q d) + ∑ p : Fin 1250, summand x0 x1 x2 x3 j (ValueIdx.ix2 ⟨p.val * 8 + q.val, by omega⟩ d) := by
  unfold accStep k0_pay1 k0_pay4
  pointwise
  refine congrArg (s (ValueIdx.ix3 j q d) + ·) ?_
  fin_cases j <;> rfl

theorem start_apply (i : S8x8x128.Idx) : k0_pay3 (F := Ideal) i = 0 := by
  unfold k0_pay3
  pointwise

/-- The total of the running sums. -/
theorem total_apply (a : Vec Ideal S8x8x128 .f32) (j : Fin 8) (d : Fin 128) :
    k0_pay2 a (ValueIdx.ix2 j d) = ∑ q : Fin 8, a (ValueIdx.ix3 j q d) := by
  unfold k0_pay2
  pointwise
  rfl

/-- The scale of a column of matrix `t`, from the table of sums. -/
def scale (a : Vec Ideal S8x128 .f32) (w : Vec Ideal S4x128 .f32) (t : Fin 4) (d : Fin 128) : EReal :=
  w (ValueIdx.ix2 t d) * Ideal.rsqrt (max ((100000⁻¹ : ℝ) : EReal)
    (a (ValueIdx.ix2 ⟨4 + t.val, by omega⟩ d) * ((100000⁻¹ : ℝ) : EReal)
      - a (ValueIdx.ix2 ⟨t.val, by omega⟩ d) * ((100000⁻¹ : ℝ) : EReal) * (a (ValueIdx.ix2 ⟨t.val, by omega⟩ d) * ((100000⁻¹ : ℝ) : EReal))))

/-- The shift of a column of matrix `t`, from the table of sums. -/
def shift (a : Vec Ideal S8x128 .f32) (w b : Vec Ideal S4x128 .f32) (t : Fin 4) (d : Fin 128) : EReal :=
  b (ValueIdx.ix2 t d) - a (ValueIdx.ix2 ⟨t.val, by omega⟩ d) * ((100000⁻¹ : ℝ) : EReal) * scale a w t d

theorem table_scale (a : Vec Ideal S8x128 .f32) (w b : Vec Ideal S4x128 .f32) (t : Fin 4) (d : Fin 128) :
    k1_pay2 a w b (ValueIdx.ix2 ⟨t.val, by omega⟩ d) = scale a w t d := by
  unfold k1_pay2 scale
  pointwise
  simp only [Consts.inv_rows]
  rfl

theorem table_shift (a : Vec Ideal S8x128 .f32) (w b : Vec Ideal S4x128 .f32) (t : Fin 4) (d : Fin 128) :
    k1_pay2 a w b (ValueIdx.ix2 ⟨4 + t.val, by omega⟩ d) = shift a w b t d := by
  unfold k1_pay2 shift scale
  pointwise
  simp only [Consts.inv_rows]
  rfl

/-- An entry of a matrix, scaled and shifted by rows `t` and `4 + t` of the table. -/
def normed {n : ℕ} (x : (⟨2, ![n, 128]⟩ : Shape).Idx → EReal) (T : Vec Ideal S8x128 .f32) (t : Fin 4) :
    (⟨2, ![n, 128]⟩ : Shape).Idx → EReal :=
  fun i => x i * T (ValueIdx.ix2 ⟨t.val, by omega⟩ (i 1)) + T (ValueIdx.ix2 ⟨4 + t.val, by omega⟩ (i 1))

/-- Two such entries agree when the matrices' entries and the columns do. -/
theorem normed_congr {n n' : ℕ} (x : (⟨2, ![n, 128]⟩ : Shape).Idx → EReal) (x' : (⟨2, ![n', 128]⟩ : Shape).Idx → EReal)
    (T : Vec Ideal S8x128 .f32) (t : Fin 4) (i : (⟨2, ![n, 128]⟩ : Shape).Idx) (i' : (⟨2, ![n', 128]⟩ : Shape).Idx)
    (hx : x i = x' i') (hc : (i 1 : Fin 128) = i' 1) : normed x T t i = normed x' T t i' := by
  unfold normed
  rw [hx, hc]

/-- Row `k` of the table, as the body loads it. -/
theorem tableRow_apply (k : Fin 8) (inb) (T : Vec Ideal S8x128 .f32) (d : Fin 128) :
    tableRow k.val inb T (ix2 0 d) = T (ValueIdx.ix2 k d) :=
  View.ld_unit_apply_of T _ _ inb _ _ fun a => by
    match a with
    | ⟨0, _⟩ => rfl
    | ⟨1, _⟩ => exact (Nat.zero_add _).symm

theorem out0_eq (x : Vec Ideal S5000x128 .f32) (T : Vec Ideal S8x128 .f32) : out0 x T = normed x T 0 := by
  funext i
  unfold out0 k1_pay3
  pointwise
  exact congrArg₂ (fun u v => x i * u + v) (tableRow_apply 0 _ T _) (tableRow_apply 4 _ T _)

theorem out1_eq (x : Vec Ideal S5000x128 .f32) (T : Vec Ideal S8x128 .f32) : out1 x T = normed x T 1 := by
  funext i
  unfold out1 k1_pay4
  pointwise
  exact congrArg₂ (fun u v => x i * u + v) (tableRow_apply 1 _ T _) (tableRow_apply 5 _ T _)

theorem out2_eq (x : Vec Ideal S5000x128 .f32) (T : Vec Ideal S8x128 .f32) : out2 x T = normed x T 2 := by
  funext i
  unfold out2 k1_pay5
  pointwise
  exact congrArg₂ (fun u v => x i * u + v) (tableRow_apply 2 _ T _) (tableRow_apply 6 _ T _)

theorem out3_eq (x : Vec Ideal S5000x128 .f32) (T : Vec Ideal S8x128 .f32) : out3 x T = normed x T 3 := by
  funext i
  unfold out3 k1_pay1
  pointwise
  exact congrArg₂ (fun u v => x i * u + v) (tableRow_apply 3 _ T _) (tableRow_apply 7 _ T _)

end Cert.KernelIdeal.Run

end
-- ==== Proof.Val.Ref.lean ====
/- The reference over the reals, read at one entry of the stacked array of 400000 rows: the segment sums are sums over
   the rows of one matrix, and every gather takes the row of that matrix's number. -/
module

public import proofs.«01_k».proof.Proof.Gen.ReferenceIdeal.Read
public import proofs.«01_k».proof.Proof.Val.Consts
public import Idealize.ShloMosaic.Lib.Routing.Ops
public import Idealize.ShloMosaic.Lib.Routing.OpsPair
public import Idealize.ShloMosaic.Lib.Pointwise

@[expose] public section

set_option maxRecDepth 16384

noncomputable section

namespace Cert.Ref

open Cert.ReferenceIdeal Cert.ReferenceIdeal.Gen Cert.ReferenceIdeal.Read
open Idealize.ShloMosaic Idealize.ShloMosaic.TcCoe

/-! ## Rows of the stack -/

/-- Row `r` of matrix `t` in the stack. -/
def row (t : Fin 4) (r : Fin 100000) : Fin 400000 := ⟨100000 * t.val + r.val, by omega⟩

/-- Every row of the stack is a row of one of the matrices. -/
theorem exists_row (k : Fin 400000) : ∃ t r, k = row t r :=
  ⟨⟨k.val / 100000, by omega⟩, ⟨k.val % 100000, by omega⟩, Fin.ext (by show k.val = 100000 * (k.val / 100000) + k.val % 100000; omega)⟩

/-- The matrix of a number. -/
def pick {α : Type} (x0 x1 x2 x3 : α) (t : Fin 4) : α := ![x0, x1, x2, x3] t

theorem toInt_small (t : Fin 4) : (BitVec.ofNat 32 t.val).toInt = (t.val : Int) := by
  fin_cases t <;> rfl

/-! ## The segment sums -/

/-- An update of the count lands at the segment its index names. -/
theorem lands_count (idx : IVec S400000x1 32) (k : Fin 400000) (t : Fin 4) :
    scatter_S4_S400000x1_S400000_n_0_0_1.resultIdx? (ValueIdx.ix1 k) idx = some (ValueIdx.ix1 t) ↔ (idx (ValueIdx.ix2 k 0)).toInt = (t.val : Int) := by
  rw [Routing.resultIdx?_ix1]
  have h0 : scatter_S4_S400000x1_S400000_n_0_0_1.start (ValueIdx.ix1 k) idx 0 = (idx (ValueIdx.ix2 k 0)).toInt := by
    unfold ScatterDims.start
    rw [dif_pos (by decide)]
    congr 2
    funext a
    match a with
    | ⟨0, _⟩ => rfl
    | ⟨1, _⟩ => rfl
  have h1 : scatter_S4_S400000x1_S400000_n_0_0_1.window (ValueIdx.ix1 k) 0 = 0 := rfl
  rw [h0, h1]
  simp

/-- An update of a column sum lands at the segment its index names, in its own column. -/
theorem lands_sum (idx : IVec S400000x1 32) (k : Fin 400000) (d : Fin 128) (t : Fin 4) (c : Fin 128) :
    scatter_S4x128_S400000x1_S400000x128_1_0_0_1.resultIdx? (ValueIdx.ix2 k d) idx = some (ValueIdx.ix2 t c)
      ↔ (idx (ValueIdx.ix2 k 0)).toInt = (t.val : Int) ∧ d = c := by
  rw [Routing.resultIdx?_ix2]
  have h0 : scatter_S4x128_S400000x1_S400000x128_1_0_0_1.start (ValueIdx.ix2 k d) idx 0 = (idx (ValueIdx.ix2 k 0)).toInt := by
    unfold ScatterDims.start
    rw [dif_pos (by decide)]
    congr 2
    funext a
    match a with
    | ⟨0, _⟩ => rfl
    | ⟨1, _⟩ => rfl
  have h1 : scatter_S4x128_S400000x1_S400000x128_1_0_0_1.window (ValueIdx.ix2 k d) 0 = 0 := rfl
  have h2 : scatter_S4x128_S400000x1_S400000x128_1_0_0_1.start (ValueIdx.ix2 k d) idx 1 = 0 := rfl
  have h3 : scatter_S4x128_S400000x1_S400000x128_1_0_0_1.window (ValueIdx.ix2 k d) 1 = d.val := rfl
  rw [h0, h1, h2, h3]
  simp [Fin.ext_iff]

/-- A row of the stack has index `t` exactly when it is a row of matrix `t`. -/
theorem rows_of {idx : IVec S400000x1 32} (h : ∀ t r, idx (ValueIdx.ix2 (row t r) 0) = BitVec.ofNat 32 t.val) (k : Fin 400000) (t : Fin 4) :
    (idx (ValueIdx.ix2 k 0)).toInt = (t.val : Int) ↔ ∃ r, k = row t r := by
  constructor
  · obtain ⟨t', r, rfl⟩ := exists_row k
    rw [h, toInt_small]
    intro e
    exact ⟨r, by rw [Fin.ext (by omega : t'.val = t.val)]⟩
  · rintro ⟨r, rfl⟩
    rw [h, toInt_small]

theorem row_inj (t : Fin 4) (r r' : Fin 100000) (h : row t r = row t r') : r = r' := by
  have := congrArg Fin.val h
  simp only [row] at this
  exact Fin.ext (by omega)

/-- The count's scatter, at a segment. -/
theorem count_apply (v : FVec Ideal S4 .f32) {idx : IVec S400000x1 32} (h : ∀ t r, idx (ValueIdx.ix2 (row t r) 0) = BitVec.ofNat 32 t.val)
    (u : FVec Ideal S400000 .f32) (t : Fin 4) :
    Ideal.hostScatterAdd scatter_S4_S400000x1_S400000_n_0_0_1 v idx u (ValueIdx.ix1 t) = v (ValueIdx.ix1 t) + ∑ r : Fin 100000, u (ValueIdx.ix1 (row t r)) := by
  unfold Ideal.hostScatterAdd
  refine congrArg (v (ValueIdx.ix1 t) + ·) (Eq.symm ?_)
  refine Finset.sum_bij (fun r _ => ValueIdx.ix1 (row t r)) ?_ ?_ ?_ (fun _ _ => rfl)
  · intro r _
    rw [Finset.mem_filter, lands_count, rows_of h]
    exact ⟨Finset.mem_univ _, r, rfl⟩
  · intro r _ r' _ e
    exact row_inj t r r' (congrFun e 0)
  · intro k hk
    obtain ⟨k, rfl⟩ : ∃ k' : Fin 400000, k = ValueIdx.ix1 k' := ⟨k 0, ValueIdx.eq_ix1 k⟩
    rw [Finset.mem_filter, lands_count, rows_of h] at hk
    obtain ⟨r, rfl⟩ := hk.2
    exact ⟨r, Finset.mem_univ _, rfl⟩

/-- A column sum's scatter, at a segment and a column. -/
theorem sum_apply (v : FVec Ideal S4x128 .f32) {idx : IVec S400000x1 32} (h : ∀ t r, idx (ValueIdx.ix2 (row t r) 0) = BitVec.ofNat 32 t.val)
    (u : FVec Ideal S400000x128 .f32) (t : Fin 4) (c : Fin 128) :
    Ideal.hostScatterAdd scatter_S4x128_S400000x1_S400000x128_1_0_0_1 v idx u (ValueIdx.ix2 t c)
      = v (ValueIdx.ix2 t c) + ∑ r : Fin 100000, u (ValueIdx.ix2 (row t r) c) := by
  unfold Ideal.hostScatterAdd
  refine congrArg (v (ValueIdx.ix2 t c) + ·) (Eq.symm ?_)
  refine Finset.sum_bij (fun r _ => ValueIdx.ix2 (row t r) c) ?_ ?_ ?_ (fun _ _ => rfl)
  · intro r _
    rw [Finset.mem_filter, lands_sum, rows_of h]
    exact ⟨Finset.mem_univ _, ⟨r, rfl⟩, rfl⟩
  · intro r _ r' _ e
    exact row_inj t r r' (congrFun e 0)
  · intro k hk
    obtain ⟨k, d, rfl⟩ : ∃ (k' : Fin 400000) (d : Fin 128), k = ValueIdx.ix2 k' d := ⟨k 0, k 1, ValueIdx.eq_ix2 k⟩
    rw [Finset.mem_filter, lands_sum, rows_of h] at hk
    obtain ⟨⟨r, rfl⟩, rfl⟩ := hk.2
    exact ⟨r, Finset.mem_univ _, rfl⟩

/-! ## The stack -/

variable (x0 x1 x2 x3 : FVec Ideal S100000x128 .f32) (x4 x5 : FVec Ideal S4x128 .f32)

/-- An index of a matrix from an equal row number. -/
theorem at_row (k r : Fin 100000) (c : Fin 128) (h : k.val = r.val) : ix2 k c = ValueIdx.ix2 r c := by
  obtain rfl := Fin.ext h
  rfl

/-- The stack of the four matrices, at a row of one of them. -/
theorem stack_apply (t : Fin 4) (r : Fin 100000) (c : Fin 128) :
    val_main_v0 (F := Ideal) x0 x1 x2 x3 (ValueIdx.ix2 (row t r) c) = pick x0 x1 x2 x3 t (ValueIdx.ix2 r c) := by
  unfold val_main_v0
  pointwise
  have hr := r.isLt
  have ht := t.isLt
  have e : (ValueIdx.ix2 (row t r) c 0).val = 100000 * t.val + r.val := rfl
  by_cases h0 : (ValueIdx.ix2 (row t r) c 0).val < 100000
  · rw [dif_pos h0]
    have hk : (ValueIdx.ix2 (row t r) c 0).val = r.val := by omega
    have htk : t = 0 := Fin.ext (by show t.val = 0; omega)
    exact (congrArg x0 (at_row ⟨_, _⟩ r c hk)).trans (by rw [htk]; rfl)
  rw [dif_neg h0]
  by_cases h1 : (ValueIdx.ix2 (row t r) c 0).val - 100000 < 100000
  · rw [dif_pos h1]
    have hk : (ValueIdx.ix2 (row t r) c 0).val - 100000 = r.val := by omega
    have htk : t = 1 := Fin.ext (by show t.val = 1; omega)
    exact (congrArg x1 (at_row ⟨_, _⟩ r c hk)).trans (by rw [htk]; rfl)
  rw [dif_neg h1]
  by_cases h2 : (ValueIdx.ix2 (row t r) c 0).val - 100000 - 100000 < 100000
  · rw [dif_pos h2]
    have hk : (ValueIdx.ix2 (row t r) c 0).val - 100000 - 100000 = r.val := by omega
    have htk : t = 2 := Fin.ext (by show t.val = 2; omega)
    exact (congrArg x2 (at_row ⟨_, _⟩ r c hk)).trans (by rw [htk]; rfl)
  · rw [dif_neg h2]
    have hk : (ValueIdx.ix2 (row t r) c 0).val - 100000 - 100000 - 100000 = r.val := by omega
    have htk : t = 3 := Fin.ext (by show t.val = 3; omega)
    exact (congrArg x3 (at_row ⟨_, _⟩ r c hk)).trans (by rw [htk]; rfl)

/-- The stack of segment numbers, at a row of one of the matrices. -/
theorem seg_apply (t : Fin 4) (r : Fin 100000) :
    val_main_v5 (F := Ideal) (ValueIdx.ix1 (row t r)) = BitVec.ofNat 32 t.val := by
  have e1 : ∀ i, val_main_v1 (F := Ideal) i = 0#32 := fun i => by rw [val_main_v1_apply, val_main_c_apply]
  have e2 : ∀ i, val_main_v2 (F := Ideal) i = 1#32 := fun i => by rw [val_main_v2_apply, val_main_c_0_apply]
  have e3 : ∀ i, val_main_v3 (F := Ideal) i = 2#32 := fun i => by rw [val_main_v3_apply, val_main_c_1_apply]
  have e4 : ∀ i, val_main_v4 (F := Ideal) i = 3#32 := fun i => by rw [val_main_v4_apply, val_main_c_2_apply]
  unfold val_main_v5
  pointwise
  simp only [e1, e2, e3, e4]
  have hr := r.isLt
  have ht := t.isLt
  have e : (ValueIdx.ix1 (row t r) 0).val = 100000 * t.val + r.val := rfl
  split_ifs with h0 h1 h2
  · rw [show t.val = 0 by omega]
  · rw [show t.val = 1 by omega]
  · rw [show t.val = 2 by omega]
  · rw [show t.val = 3 by omega]

/-- The index columns the scatters read: the segment number of the row. -/
theorem seg8 (t : Fin 4) (r : Fin 100000) : val_main_v8 (F := Ideal) (ValueIdx.ix2 (row t r) 0) = BitVec.ofNat 32 t.val := by
  rw [val_main_v8_apply, ← seg_apply t r]
  exact congrArg _ (ValueIdx.eq_ix1 _)

theorem seg13 (t : Fin 4) (r : Fin 100000) : val_main_v13 (F := Ideal) (ValueIdx.ix2 (row t r) 0) = BitVec.ofNat 32 t.val := by
  rw [val_main_v13_apply, ← seg_apply t r]
  exact congrArg _ (ValueIdx.eq_ix1 _)

theorem seg20 (t : Fin 4) (r : Fin 100000) : val_main_v20 (F := Ideal) (ValueIdx.ix2 (row t r) 0) = BitVec.ofNat 32 t.val := by
  rw [val_main_v20_apply, ← seg_apply t r]
  exact congrArg _ (ValueIdx.eq_ix1 _)

/-- A segment number is not negative, so the wrap of a negative index leaves it. -/
theorem wrap_seg (t : Fin 4) (a : BitVec 32) :
    Scalar.select (IntOp.cmpi .slt (BitVec.ofNat 32 t.val) 0#32) a (BitVec.ofNat 32 t.val) = BitVec.ofNat 32 t.val :=
  Routing.wrap_of_lt _ _ (by fin_cases t <;> decide)

/-! ## The gathers -/

/-- A gather by segment number takes the row of the matrix's number. -/
theorem gather_apply (x : FVec Ideal S4x128 .f32) {idx : IVec S400000x1 32}
    (h : ∀ t r, idx (ValueIdx.ix2 (row t r) 0) = BitVec.ofNat 32 t.val) (t : Fin 4) (r : Fin 100000) (c : Fin 128) :
    Host.gather gather_S4x128_S400000x1_S400000x128_1_0_n_n_0_1_1128 x idx (ValueIdx.ix2 (row t r) c) = x (ValueIdx.ix2 t c) :=
  Routing.gather_row _ rfl rfl rfl rfl rfl x idx (row t r) c t (h t r) (by norm_num)

theorem seg36 (t : Fin 4) (r : Fin 100000) : val_main_v36 (F := Ideal) (ValueIdx.ix1 (row t r)) = BitVec.ofNat 32 t.val := by
  rw [val_main_v36_apply, val_main_v33_apply, val_main_v32_apply, seg_apply]
  exact wrap_seg t _

theorem seg44 (t : Fin 4) (r : Fin 100000) : val_main_v44 (F := Ideal) (ValueIdx.ix1 (row t r)) = BitVec.ofNat 32 t.val := by
  rw [val_main_v44_apply, val_main_v41_apply, val_main_v40_apply, seg_apply]
  exact wrap_seg t _

theorem seg52 (t : Fin 4) (r : Fin 100000) : val_main_v52 (F := Ideal) (ValueIdx.ix1 (row t r)) = BitVec.ofNat 32 t.val := by
  rw [val_main_v52_apply, val_main_v49_apply, val_main_v48_apply, seg_apply]
  exact wrap_seg t _

theorem seg60 (t : Fin 4) (r : Fin 100000) : val_main_v60 (F := Ideal) (ValueIdx.ix1 (row t r)) = BitVec.ofNat 32 t.val := by
  rw [val_main_v60_apply, val_main_v57_apply, val_main_v56_apply, seg_apply]
  exact wrap_seg t _

theorem seg37 (t : Fin 4) (r : Fin 100000) : val_main_v37 (F := Ideal) (ValueIdx.ix2 (row t r) 0) = BitVec.ofNat 32 t.val := by
  rw [val_main_v37_apply, ← seg36 t r]
  exact congrArg _ (ValueIdx.eq_ix1 _)

theorem seg45 (t : Fin 4) (r : Fin 100000) : val_main_v45 (F := Ideal) (ValueIdx.ix2 (row t r) 0) = BitVec.ofNat 32 t.val := by
  rw [val_main_v45_apply, ← seg44 t r]
  exact congrArg _ (ValueIdx.eq_ix1 _)

theorem seg53 (t : Fin 4) (r : Fin 100000) : val_main_v53 (F := Ideal) (ValueIdx.ix2 (row t r) 0) = BitVec.ofNat 32 t.val := by
  rw [val_main_v53_apply, ← seg52 t r]
  exact congrArg _ (ValueIdx.eq_ix1 _)

theorem seg61 (t : Fin 4) (r : Fin 100000) : val_main_v61 (F := Ideal) (ValueIdx.ix2 (row t r) 0) = BitVec.ofNat 32 t.val := by
  rw [val_main_v61_apply, ← seg60 t r]
  exact congrArg _ (ValueIdx.eq_ix1 _)

/-! ## The statistics -/

/-- The number of rows of a segment, at least one. -/
theorem count_eq (t : Fin 4) : val_main_v11 (F := Ideal) (ValueIdx.ix1 t) = ((100000 : ℝ) : EReal) := by
  have h9 : val_main_v9 (F := Ideal) (ValueIdx.ix1 t) = ((100000 : ℝ) : EReal) := by
    show Ideal.hostScatterAdd scatter_S4_S400000x1_S400000_n_0_0_1 _ _ _ _ = _
    rw [count_apply _ seg8]
    simp only [val_main_v7_apply, val_main_cst_3_apply, val_main_v6_apply, val_main_cst_apply, Ideal.ofBits_def,
      Consts.zero_word, Consts.one_word, Finset.sum_const, Finset.card_univ, Fintype.card_fin, zero_add]
    rw [← EReal.coe_nsmul]
    norm_num
  rw [val_main_v11_apply, h9, val_main_v10_apply, val_main_cst_4_apply]
  show max ((100000 : ℝ) : EReal) (Ideal.ofBits .f32 0x3F800000#32) = _
  rw [Consts.one_word]
  exact max_eq_left (EReal.coe_le_coe_iff.2 (by norm_num))

/-- The sum of a column of a matrix. -/
def colSum (x : FVec Ideal S100000x128 .f32) (c : Fin 128) : EReal := ∑ r : Fin 100000, x (ValueIdx.ix2 r c)

/-- The sum of the squares of a column of a matrix. -/
def colSq (x : FVec Ideal S100000x128 .f32) (c : Fin 128) : EReal :=
  ∑ r : Fin 100000, x (ValueIdx.ix2 r c) * x (ValueIdx.ix2 r c)

/-- The mean of a column, as the reference divides it. -/
def mean (x : FVec Ideal S100000x128 .f32) (c : Fin 128) : EReal := Ideal.div (colSum x c) ((100000 : ℝ) : EReal)

theorem v17_eq (t : Fin 4) (c : Fin 128) :
    val_main_v17 (F := Ideal) x0 x1 x2 x3 (ValueIdx.ix2 t c) = mean (pick x0 x1 x2 x3 t) c := by
  rw [val_main_v17_apply, val_main_v16_apply, val_main_v15_apply, Ideal.hostDivf_def]
  unfold mean
  refine congrArg₂ Ideal.div ?_ ?_
  · show Ideal.hostScatterAdd scatter_S4x128_S400000x1_S400000x128_1_0_0_1 _ _ _ _ = _
    rw [sum_apply _ seg13, val_main_v12_apply, val_main_cst_5_apply, Ideal.ofBits_def, Consts.zero_word, zero_add]
    exact Finset.sum_congr rfl fun r _ => stack_apply x0 x1 x2 x3 t r c
  · rw [← count_eq t]
    exact congrArg _ (ValueIdx.eq_ix1 _)

theorem v24_eq (t : Fin 4) (c : Fin 128) :
    val_main_v24 (F := Ideal) x0 x1 x2 x3 (ValueIdx.ix2 t c)
      = Ideal.div (colSq (pick x0 x1 x2 x3 t) c) ((100000 : ℝ) : EReal) := by
  rw [val_main_v24_apply, val_main_v23_apply, val_main_v22_apply, Ideal.hostDivf_def]
  refine congrArg₂ Ideal.div ?_ ?_
  · show Ideal.hostScatterAdd scatter_S4x128_S400000x1_S400000x128_1_0_0_1 _ _ _ _ = _
    rw [sum_apply _ seg20, val_main_v19_apply, val_main_cst_6_apply, Ideal.ofBits_def, Consts.zero_word, zero_add]
    refine Finset.sum_congr rfl fun r _ => ?_
    rw [val_main_v18_apply, stack_apply]
    rfl
  · rw [← count_eq t]
    exact congrArg _ (ValueIdx.eq_ix1 _)

/-- One over the square root of the clipped variance of a column, as the reference computes it. -/
def invStd (x : FVec Ideal S100000x128 .f32) (c : Fin 128) : EReal :=
  Ideal.div ((1 : ℝ) : EReal) (Ideal.sqrt (max (Ideal.div ((1 : ℝ) : EReal) ((100000 : ℝ) : EReal))
    (Ideal.div (colSq x c) ((100000 : ℝ) : EReal) - mean x c * mean x c)))

theorem v31_eq (t : Fin 4) (c : Fin 128) :
    val_main_v31 (F := Ideal) x0 x1 x2 x3 (ValueIdx.ix2 t c) = invStd (pick x0 x1 x2 x3 t) c := by
  rw [val_main_v31_apply, val_main_v30_apply, val_main_v29_apply, val_main_v28_apply]
  simp only [val_main_call0_v0_apply, val_main_v27_apply, val_main_v26_apply, val_main_v25_apply, val_main_cst_7_apply,
    val_main_cst_8_apply, val_main_cst_9_apply, v24_eq, v17_eq, Ideal.hostDivf_def, Ideal.hostUnary_sqrt_def, Ideal.ofBits_def,
    Consts.one_word, Consts.rows_word]
  rfl

/-! ## An entry of the stacked result -/

/-- The reference's result at row `r` of matrix `t`. -/
theorem result_apply (t : Fin 4) (r : Fin 100000) (c : Fin 128) :
    val_main_v63 (F := Ideal) x0 x1 x2 x3 x4 x5 (ValueIdx.ix2 (row t r) c)
      = (pick x0 x1 x2 x3 t (ValueIdx.ix2 r c) - mean (pick x0 x1 x2 x3 t) c) * invStd (pick x0 x1 x2 x3 t) c
          * x4 (ValueIdx.ix2 t c) + x5 (ValueIdx.ix2 t c) := by
  rw [val_main_v63_apply, val_main_v55_apply, val_main_v47_apply, val_main_v39_apply, stack_apply]
  unfold val_main_v38 val_main_v46 val_main_v54 val_main_v62
  rw [gather_apply _ seg37, gather_apply _ seg45, gather_apply _ seg53, gather_apply _ seg61, v17_eq, v31_eq]
  rfl

end Cert.Ref

end
-- ==== Proof.Val.Stats.lean ====
/- The first call over the reals: the table of sums after it holds each column's sum and each column's sum of squares. -/
module

public import proofs.«01_k».proof.Proof.Val.Pay
public import proofs.«01_k».proof.Proof.Val.Ref

@[expose] public section

set_option maxRecDepth 16384

noncomputable section

namespace Cert.KernelIdeal.Run

open Cert.KernelIdeal.Gen
open Idealize.ShloMosaic Idealize.ShloMosaic.TcCoe

/-- A sum over `m * n` places, taken in `m` runs of `n`. -/
theorem sum_runs {M : Type} [AddCommMonoid M] (m n : ℕ) (f : ℕ → M) :
    ∑ i : Fin (m * n), f i.val = ∑ a : Fin m, ∑ b : Fin n, f (b.val + n * a.val) := by
  rw [← Fintype.sum_prod_type' (fun (a : Fin m) (b : Fin n) => f (b.val + n * a.val))]
  exact (Equiv.sum_comp finProdFinEquiv fun i => f i.val).symm

variable (V : (c : Dev nD) → (b : Ref sig .tc) → Buf (Elt Ideal) ((c : Thread nD τ).loc b))

/-- Where block `t` of an input lies: at rows `10000 t` and on. -/
theorem place0 : ∀ t : Fin cfg0.N, (win0_0.index t (0 : Fin 2) = t.val ∧ win0_0.index t (1 : Fin 2) = 0)
    ∧ (win0_1.index t (0 : Fin 2) = t.val ∧ win0_1.index t (1 : Fin 2) = 0)
    ∧ (win0_2.index t (0 : Fin 2) = t.val ∧ win0_2.index t (1 : Fin 2) = 0)
    ∧ (win0_3.index t (0 : Fin 2) = t.val ∧ win0_3.index t (1 : Fin 2) = 0)
    ∧ (win0_4.index t (0 : Fin 2) = 0 ∧ win0_4.index t (1 : Fin 2) = 0) := by
  decide +kernel

theorem lt_rows0 (t : Fin cfg0.N) (a : Fin 10000) : 10000 * t.val + a.val < 100000 := by
  have h : t.val < 10 := lt_of_lt_of_eq t.isLt N_0
  omega

/-- A row of block `t` is a row of the input. -/
theorem blk0_apply0 (c : Dev nD) (t : Fin cfg0.N) (a : Fin 10000) (d : Fin 128) :
    blk0 V c 0 t (ValueIdx.ix2 a d) = V c main_arg0 (ValueIdx.ix2 ⟨10000 * t.val + a.val, lt_rows0 t a⟩ d) := by
  obtain ⟨⟨e0, e1⟩, -⟩ := place0 t
  refine congrArg (V c main_arg0) (funext fun k => Fin.ext ?_)
  match k with
  | ⟨0, _⟩ => show win0_0.index t (0 : Fin 2) * 10000 + 1 * a.val = 10000 * t.val + a.val; omega
  | ⟨1, _⟩ => show win0_0.index t (1 : Fin 2) * 128 + 1 * d.val = d.val; omega

theorem blk0_apply1 (c : Dev nD) (t : Fin cfg0.N) (a : Fin 10000) (d : Fin 128) :
    blk0 V c 1 t (ValueIdx.ix2 a d) = V c main_arg1 (ValueIdx.ix2 ⟨10000 * t.val + a.val, lt_rows0 t a⟩ d) := by
  obtain ⟨-, ⟨e0, e1⟩, -⟩ := place0 t
  refine congrArg (V c main_arg1) (funext fun k => Fin.ext ?_)
  match k with
  | ⟨0, _⟩ => show win0_1.index t (0 : Fin 2) * 10000 + 1 * a.val = 10000 * t.val + a.val; omega
  | ⟨1, _⟩ => show win0_1.index t (1 : Fin 2) * 128 + 1 * d.val = d.val; omega

theorem blk0_apply2 (c : Dev nD) (t : Fin cfg0.N) (a : Fin 10000) (d : Fin 128) :
    blk0 V c 2 t (ValueIdx.ix2 a d) = V c main_arg2 (ValueIdx.ix2 ⟨10000 * t.val + a.val, lt_rows0 t a⟩ d) := by
  obtain ⟨-, -, ⟨e0, e1⟩, -⟩ := place0 t
  refine congrArg (V c main_arg2) (funext fun k => Fin.ext ?_)
  match k with
  | ⟨0, _⟩ => show win0_2.index t (0 : Fin 2) * 10000 + 1 * a.val = 10000 * t.val + a.val; omega
  | ⟨1, _⟩ => show win0_2.index t (1 : Fin 2) * 128 + 1 * d.val = d.val; omega

theorem blk0_apply3 (c : Dev nD) (t : Fin cfg0.N) (a : Fin 10000) (d : Fin 128) :
    blk0 V c 3 t (ValueIdx.ix2 a d) = V c main_arg3 (ValueIdx.ix2 ⟨10000 * t.val + a.val, lt_rows0 t a⟩ d) := by
  obtain ⟨-, -, -, ⟨e0, e1⟩, -⟩ := place0 t
  refine congrArg (V c main_arg3) (funext fun k => Fin.ext ?_)
  match k with
  | ⟨0, _⟩ => show win0_3.index t (0 : Fin 2) * 10000 + 1 * a.val = 10000 * t.val + a.val; omega
  | ⟨1, _⟩ => show win0_3.index t (1 : Fin 2) * 128 + 1 * d.val = d.val; omega

/-- What row `r` of the inputs adds to entry `(j, d)` of the table of sums. -/
def rowAdds (c : Dev nD) (j : Fin 8) (d : Fin 128) (r : Fin 100000) : EReal :=
  summand (V c main_arg0) (V c main_arg1) (V c main_arg2) (V c main_arg3) j (ValueIdx.ix2 r d)

/-- The same, at any number (nothing past the last row). -/
def adds (c : Dev nD) (j : Fin 8) (d : Fin 128) (r : ℕ) : EReal :=
  if h : r < 100000 then rowAdds V c j d ⟨r, h⟩ else 0

theorem adds_row (c : Dev nD) (j : Fin 8) (d : Fin 128) (r : Fin 100000) : adds V c j d r.val = rowAdds V c j d r :=
  dif_pos r.isLt

/-- A step of the running sums, in rows of the inputs. -/
theorem step_apply (c : Dev nD) (t : Fin cfg0.N) (s : Vec Ideal S8x8x128 .f32) (j q : Fin 8) (d : Fin 128) :
    accStep (blk0 V c 0 t) (blk0 V c 1 t) (blk0 V c 2 t) (blk0 V c 3 t) s (ValueIdx.ix3 j q d)
      = s (ValueIdx.ix3 j q d) + ∑ p : Fin 1250, adds V c j d (q.val + 8 * p.val + 10000 * t.val) := by
  rw [accStep_apply]
  refine congrArg (s (ValueIdx.ix3 j q d) + ·) (Finset.sum_congr rfl fun p _ => ?_)
  have ht : t.val < 10 := lt_of_lt_of_eq t.isLt N_0
  have e : (⟨q.val + 8 * p.val + 10000 * t.val, by omega⟩ : Fin 100000)
      = ⟨10000 * t.val + (⟨p.val * 8 + q.val, by omega⟩ : Fin 10000).val, lt_rows0 t _⟩ := Fin.ext (by
    show q.val + 8 * p.val + 10000 * t.val = 10000 * t.val + (p.val * 8 + q.val); omega)
  unfold adds
  rw [dif_pos (by omega), e]
  unfold rowAdds summand
  rw [blk0_apply0, blk0_apply1, blk0_apply2, blk0_apply3]

/-- The running sums after point `n`: of each residue modulo 8, the rows of the blocks so far. -/
theorem acc_apply (c : Dev nD) (j q : Fin 8) (d : Fin 128) : (n : ℕ) → (h : n < cfg0.N) →
    acc V c n h (ValueIdx.ix3 j q d) = ∑ k : Fin (n + 1), ∑ p : Fin 1250, adds V c j d (q.val + 8 * p.val + 10000 * k.val)
  | 0, h => by
    rw [Fin.sum_univ_castSucc, Fin.sum_univ_zero, zero_add]
    exact (step_apply V c ⟨0, h⟩ (k0_pay3 (F := Ideal)) j q d).trans (by rw [start_apply, zero_add]; rfl)
  | n + 1, h => by
    rw [Fin.sum_univ_castSucc]
    exact (step_apply V c ⟨n + 1, h⟩ (acc V c n (Nat.lt_of_succ_lt h)) j q d).trans
      (by rw [acc_apply c j q d n (Nat.lt_of_succ_lt h)]; rfl)

/-- The table of sums: every row of the inputs, added up. -/
def sums (c : Dev nD) (i : S8x128.Idx) : EReal := ∑ r : Fin 100000, rowAdds V c (i 0) (i 1) r

/-- The last point. -/
abbrev last0 : Fin cfg0.N := ⟨9, by rw [show cfg0.N = 10 from N_0]; decide⟩

theorem total_last (c : Dev nD) : k0_pay2 (acc V c 9 last0.isLt) = sums V c := by
  funext i
  obtain ⟨j, d, rfl⟩ : ∃ (j : Fin 8) (d : Fin 128), i = ValueIdx.ix2 j d := ⟨i 0, i 1, ValueIdx.eq_ix2 i⟩
  have hrows : sums V c (ValueIdx.ix2 j d) = ∑ r : Fin (10 * 10000), adds V c j d r.val :=
    Finset.sum_congr rfl fun r _ => (adds_row V c j d r).symm
  rw [hrows, sum_runs, total_apply, Finset.sum_congr rfl fun q _ => acc_apply V c j q d 9 last0.isLt, Finset.sum_comm]
  refine Finset.sum_congr rfl fun k _ => ?_
  rw [sum_runs 1250 8 (fun r => adds V c j d (r + 10000 * k.val)), Finset.sum_comm]

/-- The table of sums, as the second call finds it. -/
theorem sums_array (c : Dev nD) : (dat0 V c).arrAt 4 cfg0.N = sums V c := by
  refine (dat0 V c).arrAt_eq_of_cover 4 (sums V c) (fun t hf => ?_) fun i => ⟨last0, (flush0_4 last0).2 rfl, ?_⟩
  · have ht : t = last0 := Fin.ext (by
      have h : t.val < 10 := lt_of_lt_of_eq t.isLt N_0
      have := (flush0_4 t).1 hf
      show t.val = 9; omega)
    subst ht
    show (cfg0.win 4).cut (grid0.coords last0) ((dat0 V c).after 4 last0) = _
    rw [after0_4, total_last]
    generalize sums V c = G
    obtain ⟨-, -, -, -, e0, e1⟩ := place0 last0
    funext y
    have he : (cfg0.win 4).xinj (grid0.coords last0) y = ((cfg0.win 4).blk last0).view.emb y := funext fun k => Fin.ext (by
      match k with
      | ⟨0, _⟩ => show (y 0).val = win0_4.index last0 (0 : Fin 2) * 8 + 1 * (y 0).val; omega
      | ⟨1, _⟩ => show (y 1).val = win0_4.index last0 (1 : Fin 2) * 128 + 1 * (y 1).val; omega)
    show G ((cfg0.win 4).xinj (grid0.coords last0) y) = G (((cfg0.win 4).blk last0).view.emb y)
    rw [he]
  · show i ∈ ((View.whole main_call0_v0).slice (win0_4.rect last0)).set
    rw [View.set_slice_whole, Rect.mem_set_unit]
    obtain ⟨-, -, -, -, e0, e1⟩ := place0 last0
    have h0 : (i 0).val < 8 := (i 0).isLt
    have h1 : (i 1).val < 128 := (i 1).isLt
    intro a
    match a with
    | ⟨0, _⟩ => show win0_4.index last0 (0 : Fin 2) * 8 ≤ (i 0).val ∧ (i 0).val < win0_4.index last0 (0 : Fin 2) * 8 + 8; omega
    | ⟨1, _⟩ => show win0_4.index last0 (1 : Fin 2) * 128 ≤ (i 1).val ∧ (i 1).val < win0_4.index last0 (1 : Fin 2) * 128 + 128; omega

end Cert.KernelIdeal.Run

end
-- ==== Proof.Val.Norm.lean ====
/- The second call over the reals: each result is its matrix with every column scaled and shifted. -/
module

public import proofs.«01_k».proof.Proof.Val.Pay

@[expose] public section

set_option maxRecDepth 16384

noncomputable section

namespace Cert.KernelIdeal.Run

open Cert.KernelIdeal.Gen
open Idealize.ShloMosaic Idealize.ShloMosaic.TcCoe

variable (V : (c : Dev nD) → (b : Ref sig .tc) → Buf (Elt Ideal) ((c : Thread nD τ).loc b))

/-- Where the blocks lie: the table of sums, the weights and the biases are read whole, -/
theorem place1_whole : ∀ t : Fin cfg1.N, (win1_0.index t (0 : Fin 2) = 0 ∧ win1_0.index t (1 : Fin 2) = 0)
    ∧ (win1_1.index t (0 : Fin 2) = 0 ∧ win1_1.index t (1 : Fin 2) = 0)
    ∧ (win1_2.index t (0 : Fin 2) = 0 ∧ win1_2.index t (1 : Fin 2) = 0) := by
  decide +kernel

/-- block `t` of an input is at rows `5000 t` and on, -/
theorem place1_in : ∀ t : Fin cfg1.N, (win1_3.index t (0 : Fin 2) = t.val ∧ win1_3.index t (1 : Fin 2) = 0)
    ∧ (win1_4.index t (0 : Fin 2) = t.val ∧ win1_4.index t (1 : Fin 2) = 0)
    ∧ (win1_5.index t (0 : Fin 2) = t.val ∧ win1_5.index t (1 : Fin 2) = 0)
    ∧ (win1_6.index t (0 : Fin 2) = t.val ∧ win1_6.index t (1 : Fin 2) = 0) := by
  decide +kernel

/-- and so is block `t` of a result. -/
theorem place1_out : ∀ t : Fin cfg1.N, (win1_7.index t (0 : Fin 2) = t.val ∧ win1_7.index t (1 : Fin 2) = 0)
    ∧ (win1_8.index t (0 : Fin 2) = t.val ∧ win1_8.index t (1 : Fin 2) = 0)
    ∧ (win1_9.index t (0 : Fin 2) = t.val ∧ win1_9.index t (1 : Fin 2) = 0)
    ∧ (win1_10.index t (0 : Fin 2) = t.val ∧ win1_10.index t (1 : Fin 2) = 0) := by
  decide +kernel

/-- Places that agree along both axes give the same element. -/
theorem same_place {p p' : Fin 2 → ℕ} {t : ℕ} (h : p 0 = t ∧ p 1 = 0) (h' : p' 0 = t ∧ p' 1 = 0) (size y : ℕ) :
    (k : Fin 2) → p k * size + 1 * y = p' k * size + 1 * y
  | 0 => by rw [h.1, h'.1]
  | 1 => by rw [h.2, h'.2]

/-- A block read whole keeps an element's place. -/
theorem whole_place {p : Fin 2 → ℕ} (h : p 0 = 0 ∧ p 1 = 0) (size y : ℕ) : (k : Fin 2) → p k * size + 1 * y = y
  | 0 => by rw [h.1]; omega
  | 1 => by rw [h.2]; omega

/-- The block at rows `5000 t` and on, where `t` is a row's number divided by 5000, has the row. -/
theorem in_block {p : Fin 2 → ℕ} (i : S100000x128.Idx) (h : p 0 = (i 0).val / 5000 ∧ p 1 = 0) :
    (k : Fin 2) → p k * S5000x128.size k ≤ (i k).val ∧ (i k).val < p k * S5000x128.size k + S5000x128.size k
  | 0 => by rw [h.1]; show (i 0).val / 5000 * 5000 ≤ _ ∧ _ < (i 0).val / 5000 * 5000 + 5000; omega
  | 1 => by
    have : (i 1).val < 128 := (i 1).isLt
    rw [h.2]; show 0 * 128 ≤ _ ∧ _ < 0 * 128 + 128; omega

/-- The point that writes a row of a result back. -/
theorem point_lt (i : S100000x128.Idx) : (i 0).val / 5000 < cfg1.N := by
  have : (i 0).val < 100000 := (i 0).isLt
  exact lt_of_lt_of_eq (by omega) N_1.symm

theorem blk1_whole0 (c : Dev nD) (t : Fin cfg1.N) : blk1 V c 0 t = V c main_call0_v0 :=
  funext fun y => congrArg (V c main_call0_v0) (funext fun k => Fin.ext (whole_place (place1_whole t).1 _ _ k))

theorem blk1_whole1 (c : Dev nD) (t : Fin cfg1.N) : blk1 V c 1 t = V c main_arg4 :=
  funext fun y => congrArg (V c main_arg4) (funext fun k => Fin.ext (whole_place (place1_whole t).2.1 _ _ k))

theorem blk1_whole2 (c : Dev nD) (t : Fin cfg1.N) : blk1 V c 2 t = V c main_arg5 :=
  funext fun y => congrArg (V c main_arg5) (funext fun k => Fin.ext (whole_place (place1_whole t).2.2 _ _ k))

/-- The table of scales and shifts, from the arrays the call finds. -/
theorem table_eq (c : Dev nD) : table V c = k1_pay2 (F := Ideal) (V c main_call0_v0) (V c main_arg4) (V c main_arg5) := by
  unfold table
  rw [blk1_whole0, blk1_whole1, blk1_whole2]

/-- What result 1's array holds after the call: the matrix, scaled and shifted. -/
theorem result_array0 (c : Dev nD) :
    (dat1 V c).arrAt 7 cfg1.N = normed (n := 100000) (V c main_arg0) (table V c) 0 := by
  refine (dat1 V c).arrAt_eq_of_cover 7 _ (fun t _ => ?_) fun i => ⟨⟨(i 0).val / 5000, point_lt i⟩, flush1_7 _, ?_⟩
  · show (cfg1.win 7).cut (grid1.coords t) ((dat1 V c).after 7 t) = _
    rw [after1_7, out0_eq]
    generalize table V c = T
    refine funext fun y => normed_congr _ _ T 0 _ _ (congrArg (V c main_arg0) (funext fun k => Fin.ext ?_)) (Fin.ext ?_)
    · exact same_place (place1_in t).1 (place1_out t).1 _ _ k
    · exact (whole_place (p := fun _ => 0) ⟨rfl, rfl⟩ 128 _ 1).symm.trans
        (congrArg (· * 128 + 1 * (y 1).val) (place1_out t).1.2.symm)
  · show i ∈ ((View.whole main_v0_0).slice (win1_7.rect ⟨(i 0).val / 5000, point_lt i⟩)).set
    rw [View.set_slice_whole, Rect.mem_set_unit]
    exact in_block i (place1_out ⟨(i 0).val / 5000, point_lt i⟩).1

/-- Result 2's array, likewise. -/
theorem result_array1 (c : Dev nD) :
    (dat1 V c).arrAt 8 cfg1.N = normed (n := 100000) (V c main_arg1) (table V c) 1 := by
  refine (dat1 V c).arrAt_eq_of_cover 8 _ (fun t _ => ?_) fun i => ⟨⟨(i 0).val / 5000, point_lt i⟩, flush1_8 _, ?_⟩
  · show (cfg1.win 8).cut (grid1.coords t) ((dat1 V c).after 8 t) = _
    rw [after1_8, out1_eq]
    generalize table V c = T
    refine funext fun y => normed_congr _ _ T 1 _ _ (congrArg (V c main_arg1) (funext fun k => Fin.ext ?_)) (Fin.ext ?_)
    · exact same_place (place1_in t).2.1 (place1_out t).2.1 _ _ k
    · exact (whole_place (p := fun _ => 0) ⟨rfl, rfl⟩ 128 _ 1).symm.trans
        (congrArg (· * 128 + 1 * (y 1).val) (place1_out t).2.1.2.symm)
  · show i ∈ ((View.whole main_v0_1).slice (win1_8.rect ⟨(i 0).val / 5000, point_lt i⟩)).set
    rw [View.set_slice_whole, Rect.mem_set_unit]
    exact in_block i (place1_out ⟨(i 0).val / 5000, point_lt i⟩).2.1

/-- Result 3's array, likewise. -/
theorem result_array2 (c : Dev nD) :
    (dat1 V c).arrAt 9 cfg1.N = normed (n := 100000) (V c main_arg2) (table V c) 2 := by
  refine (dat1 V c).arrAt_eq_of_cover 9 _ (fun t _ => ?_) fun i => ⟨⟨(i 0).val / 5000, point_lt i⟩, flush1_9 _, ?_⟩
  · show (cfg1.win 9).cut (grid1.coords t) ((dat1 V c).after 9 t) = _
    rw [after1_9, out2_eq]
    generalize table V c = T
    refine funext fun y => normed_congr _ _ T 2 _ _ (congrArg (V c main_arg2) (funext fun k => Fin.ext ?_)) (Fin.ext ?_)
    · exact same_place (place1_in t).2.2.1 (place1_out t).2.2.1 _ _ k
    · exact (whole_place (p := fun _ => 0) ⟨rfl, rfl⟩ 128 _ 1).symm.trans
        (congrArg (· * 128 + 1 * (y 1).val) (place1_out t).2.2.1.2.symm)
  · show i ∈ ((View.whole main_v0_2).slice (win1_9.rect ⟨(i 0).val / 5000, point_lt i⟩)).set
    rw [View.set_slice_whole, Rect.mem_set_unit]
    exact in_block i (place1_out ⟨(i 0).val / 5000, point_lt i⟩).2.2.1

/-- Result 4's array, likewise. -/
theorem result_array3 (c : Dev nD) :
    (dat1 V c).arrAt 10 cfg1.N = normed (n := 100000) (V c main_arg3) (table V c) 3 := by
  refine (dat1 V c).arrAt_eq_of_cover 10 _ (fun t _ => ?_) fun i => ⟨⟨(i 0).val / 5000, point_lt i⟩, flush1_10 _, ?_⟩
  · show (cfg1.win 10).cut (grid1.coords t) ((dat1 V c).after 10 t) = _
    rw [after1_10, out3_eq]
    generalize table V c = T
    refine funext fun y => normed_congr _ _ T 3 _ _ (congrArg (V c main_arg3) (funext fun k => Fin.ext ?_)) (Fin.ext ?_)
    · exact same_place (place1_in t).2.2.2 (place1_out t).2.2.2 _ _ k
    · exact (whole_place (p := fun _ => 0) ⟨rfl, rfl⟩ 128 _ 1).symm.trans
        (congrArg (· * 128 + 1 * (y 1).val) (place1_out t).2.2.2.2.symm)
  · show i ∈ ((View.whole main_v0_3).slice (win1_10.rect ⟨(i 0).val / 5000, point_lt i⟩)).set
    rw [View.set_slice_whole, Rect.mem_set_unit]
    exact in_block i (place1_out ⟨(i 0).val / 5000, point_lt i⟩).2.2.2

end Cert.KernelIdeal.Run

end
-- ==== Proof.Val.Algebra.lean ====
/- The two normalizations agree on real entries: scaling and shifting a column with its sum and its sum of squares is
   subtracting its mean, dividing by its deviation, weighting and biasing. -/
module

public import proofs.«01_k».proof.Proof.Val.Ref

@[expose] public section

noncomputable section

namespace Cert.Ref

open Cert.ReferenceIdeal Idealize.ShloMosaic

/-- The kernel's scale of a column, from its sum, its sum of squares and its weight. -/
def foldedScale (s q w : EReal) : EReal :=
  w * Ideal.rsqrt (max ((100000⁻¹ : ℝ) : EReal)
    (q * ((100000⁻¹ : ℝ) : EReal) - s * ((100000⁻¹ : ℝ) : EReal) * (s * ((100000⁻¹ : ℝ) : EReal))))

/-- The kernel's entry: the matrix's, scaled, and the shift added. -/
def folded (s q w b x : EReal) : EReal :=
  x * foldedScale s q w + (b - s * ((100000⁻¹ : ℝ) : EReal) * foldedScale s q w)

theorem div_rows (x : ℝ) : Ideal.div (x : EReal) ((100000 : ℝ) : EReal) = ((x * 100000⁻¹ : ℝ) : EReal) := by
  rw [Ideal.div_coe (by norm_num), one_div, ← EReal.coe_mul]

/-- The clipped variance of a column. -/
def clipped (s q : ℝ) : ℝ := max 100000⁻¹ (q * 100000⁻¹ - s * 100000⁻¹ * (s * 100000⁻¹))

theorem clipped_pos (s q : ℝ) : 0 < clipped s q := lt_max_of_lt_left (by norm_num)

theorem coe_clipped (s q : ℝ) :
    max ((100000⁻¹ : ℝ) : EReal) (((q * 100000⁻¹ : ℝ) : EReal) - ((s * 100000⁻¹ : ℝ) : EReal) * ((s * 100000⁻¹ : ℝ) : EReal))
      = ((clipped s q : ℝ) : EReal) := by
  rw [← EReal.coe_mul, ← EReal.coe_sub]
  exact (EReal.coe_strictMono.monotone.map_max).symm

theorem foldedScale_coe (s q w : ℝ) : foldedScale (s : EReal) (q : EReal) (w : EReal) = ((w * (√(clipped s q))⁻¹ : ℝ) : EReal) := by
  unfold foldedScale
  rw [← EReal.coe_mul q, ← EReal.coe_mul s, coe_clipped, Ideal.rsqrt_coe, if_neg (clipped_pos s q).not_gt,
    if_neg (clipped_pos s q).ne', ← EReal.coe_mul]

theorem sum_coe {ι : Type} [Fintype ι] (f : ι → ℝ) : ∑ i, ((f i : ℝ) : EReal) = ((∑ i, f i : ℝ) : EReal) := by
  classical
  refine Finset.induction_on (motive := fun s => ∑ i ∈ s, ((f i : ℝ) : EReal) = ((∑ i ∈ s, f i : ℝ) : EReal)) Finset.univ ?_ ?_
  · simp
  · intro a s ha ih
    rw [Finset.sum_insert ha, Finset.sum_insert ha, ih, EReal.coe_add]

/-- On real entries, a real weight and any bias, the two entries agree. -/
theorem agree (x : FVec Ideal S100000x128 .f32) (w b : EReal) (hx : ∀ i, ∃ ξ : ℝ, x i = (ξ : EReal)) (hw : ∃ ω : ℝ, w = (ω : EReal))
    (r : Fin 100000) (d : Fin 128) :
    folded (colSum x d) (colSq x d) w b (x (ValueIdx.ix2 r d))
      = (x (ValueIdx.ix2 r d) - mean x d) * invStd x d * w + b := by
  choose ξ hξ using hx
  obtain ⟨ω, rfl⟩ := hw
  have hs : colSum x d = ((∑ k : Fin 100000, ξ (ValueIdx.ix2 k d) : ℝ) : EReal) := by
    unfold colSum
    rw [← sum_coe]
    exact Finset.sum_congr rfl fun k _ => hξ _
  have hq : colSq x d = ((∑ k : Fin 100000, ξ (ValueIdx.ix2 k d) * ξ (ValueIdx.ix2 k d) : ℝ) : EReal) := by
    unfold colSq
    rw [← sum_coe]
    exact Finset.sum_congr rfl fun k _ => by rw [hξ, EReal.coe_mul]
  unfold invStd mean
  rw [hs, hq, hξ]
  generalize (∑ k : Fin 100000, ξ (ValueIdx.ix2 k d)) = s
  generalize (∑ k : Fin 100000, ξ (ValueIdx.ix2 k d) * ξ (ValueIdx.ix2 k d)) = q
  generalize ξ (ValueIdx.ix2 r d) = y
  have hd : √(clipped s q) ≠ 0 := (Real.sqrt_pos.2 (clipped_pos s q)).ne'
  unfold folded
  rw [foldedScale_coe, div_rows, div_rows, div_rows, one_mul, coe_clipped, Ideal.sqrt_coe, if_neg (clipped_pos s q).not_gt,
    Ideal.div_coe hd, ← EReal.coe_mul, ← EReal.coe_mul, ← EReal.coe_mul, ← EReal.coe_mul, ← EReal.coe_sub, ← EReal.coe_mul,
    ← EReal.coe_mul, sub_eq_add_neg b, ← EReal.coe_neg, add_comm b, ← add_assoc, ← EReal.coe_add]
  refine congrArg (fun z : ℝ => (z : EReal) + b) ?_
  ring

end Cert.Ref

end
-- ==== Proof.Val.Result.lean ====
/- The two programs' results over the reals, each a matrix normalized, and their equality where the inputs are real. -/
module

public import proofs.«01_k».proof.Proof.KI.Run
public import proofs.«01_k».proof.Proof.Val.Stats
public import proofs.«01_k».proof.Proof.Val.Norm
public import proofs.«01_k».proof.Proof.Val.Algebra
public import proofs.«01_k».proof.Proof.Gen.ReferenceIdeal.Run
public import proofs.«01_k».proof.Proof.Gen.ReferenceIdeal.Read

@[expose] public section

set_option maxRecDepth 16384

noncomputable section

namespace Cert.Ref

open Cert.ReferenceIdeal Cert.ReferenceIdeal.Read
open Idealize.ShloMosaic Idealize.ShloMosaic.TcCoe

/-- A matrix normalized: each column less its mean, over its deviation, weighted and biased by row `t`. -/
def normalized (x : FVec Ideal S100000x128 .f32) (w b : FVec Ideal S4x128 .f32) (t : Fin 4) : FVec Ideal S100000x128 .f32 := fun i =>
  (x i - mean x (i 1)) * invStd x (i 1) * w (ValueIdx.ix2 t (i 1)) + b (ValueIdx.ix2 t (i 1))

/-- Matrix `t`'s rows of the stacked normalized matrices. -/
theorem stacked_rows (x0 x1 x2 x3 : FVec Ideal S100000x128 .f32) (w b : FVec Ideal S4x128 .f32) (t : Fin 4) (i : S100000x128.Idx)
    (j : S400000x128.Idx) (h0 : (j 0).val = (row t (i 0)).val) (h1 : (j 1).val = (i 1).val) :
    val_main_v63 (F := Ideal) x0 x1 x2 x3 w b j = normalized (pick x0 x1 x2 x3 t) w b t i := by
  obtain ⟨r, d, rfl⟩ : ∃ (r : Fin 100000) (d : Fin 128), i = ValueIdx.ix2 r d := ⟨i 0, i 1, ValueIdx.eq_ix2 i⟩
  have e : j = ValueIdx.ix2 (row t r) d := by
    funext k
    match k with
    | ⟨0, _⟩ => exact Fin.ext h0
    | ⟨1, _⟩ => exact Fin.ext h1
  rw [e, result_apply]
  rfl

variable (m : (ℓ : Loc nD τ sig) → Buf (Elt Ideal) ℓ) (c : Dev nD)

/-- The reference's arguments. -/
abbrev arg (t : Fin 4) : FVec Ideal S100000x128 .f32 :=
  pick (m ((c.tc : Thread nD τ).loc main_arg0)) (m ((c.tc : Thread nD τ).loc main_arg1)) (m ((c.tc : Thread nD τ).loc main_arg2))
    (m ((c.tc : Thread nD τ).loc main_arg3)) t
abbrev weight : FVec Ideal S4x128 .f32 := m ((c.tc : Thread nD τ).loc main_arg4)
abbrev bias : FVec Ideal S4x128 .f32 := m ((c.tc : Thread nD τ).loc main_arg5)

theorem res0 : Value.res_main_v64 m c = normalized (arg m c 0) (weight m c) (bias m c) 0 :=
  (val_main_v64_eq m c).trans (funext fun i => (val_main_v64_apply _ _ _ _ _ _ i).trans
    (stacked_rows _ _ _ _ _ _ 0 i _ (by show (i 0).val = 100000 * 0 + (i 0).val; omega) rfl))

theorem res1 : Value.res_main_v65 m c = normalized (arg m c 1) (weight m c) (bias m c) 1 :=
  (val_main_v65_eq m c).trans (funext fun i => (val_main_v65_apply _ _ _ _ _ _ i).trans
    (stacked_rows _ _ _ _ _ _ 1 i _ rfl rfl))

theorem res2 : Value.res_main_v66 m c = normalized (arg m c 2) (weight m c) (bias m c) 2 :=
  (val_main_v66_eq m c).trans (funext fun i => (val_main_v66_apply _ _ _ _ _ _ i).trans
    (stacked_rows _ _ _ _ _ _ 2 i _ rfl rfl))

theorem res3 : Value.res_main_v67 m c = normalized (arg m c 3) (weight m c) (bias m c) 3 :=
  (val_main_v67_eq m c).trans (funext fun i => (val_main_v67_apply _ _ _ _ _ _ i).trans
    (stacked_rows _ _ _ _ _ _ 3 i _ rfl rfl))

end Cert.Ref

namespace Cert.KernelIdeal.Run

open Cert.KernelIdeal.Gen
open Idealize.ShloMosaic Idealize.ShloMosaic.TcCoe

variable (m : (ℓ : Loc nD τ sig) → Buf (Elt Ideal) ℓ) (ρ : Dev nD → PrngReg) (c : Dev nD)

/-- The kernel's arguments. -/
abbrev arg (t : Fin 4) : FVec Ideal S100000x128 .f32 :=
  Ref.pick (m ((c : Thread nD τ).loc main_arg0)) (m ((c : Thread nD τ).loc main_arg1)) (m ((c : Thread nD τ).loc main_arg2))
    (m ((c : Thread nD τ).loc main_arg3)) t
abbrev weight : FVec Ideal S4x128 .f32 := m ((c : Thread nD τ).loc main_arg4)
abbrev bias : FVec Ideal S4x128 .f32 := m ((c : Thread nD τ).loc main_arg5)

/-- The first four rows of the table of sums are the column sums, -/
theorem sums_sum (t : Fin 4) (d : Fin 128) :
    sums (V0 m ρ) c (ValueIdx.ix2 ⟨t.val, by omega⟩ d) = Ref.colSum (arg m c t) d := by
  refine Finset.sum_congr rfl fun r _ => ?_
  fin_cases t <;> rfl

/-- the last four the column sums of squares. -/
theorem sums_sq (t : Fin 4) (d : Fin 128) :
    sums (V0 m ρ) c (ValueIdx.ix2 ⟨4 + t.val, by omega⟩ d) = Ref.colSq (arg m c t) d := by
  refine Finset.sum_congr rfl fun r _ => ?_
  fin_cases t <;> rfl

/-- The second call's table, from the launch's arrays. -/
theorem table_launch : table (V1 m ρ) c = k1_pay2 (F := Ideal) (sums (V0 m ρ) c) (weight m c) (bias m c) := by
  have h0 : V1 m ρ c main_call0_v0 = sums (V0 m ρ) c := (W1_arr m ρ c 4).trans (sums_array (V0 m ρ) c)
  have h4 : V1 m ρ c main_arg4 = weight m c := W1_args m ρ c main_arg4 (by decide)
  have h5 : V1 m ρ c main_arg5 = bias m c := W1_args m ρ c main_arg5 (by decide)
  rw [table_eq, h0, h4, h5]

/-- Scaled and shifted by the table, a matrix of real entries under real weights is normalized. -/
theorem normed_eq (t : Fin 4) (hx : ∀ i, ∃ ξ : ℝ, arg m c t i = (ξ : EReal)) (hw : ∀ i, ∃ ω : ℝ, weight m c i = (ω : EReal)) :
    normed (n := 100000) (arg m c t) (table (V1 m ρ) c) t = Ref.normalized (arg m c t) (weight m c) (bias m c) t := by
  funext i
  obtain ⟨r, d, rfl⟩ : ∃ (r : Fin 100000) (d : Fin 128), i = ValueIdx.ix2 r d := ⟨i 0, i 1, ValueIdx.eq_ix2 i⟩
  refine Eq.trans ?_ (Ref.agree (arg m c t) (weight m c (ValueIdx.ix2 t d)) (bias m c (ValueIdx.ix2 t d)) hx (hw _) r d)
  show arg m c t (ValueIdx.ix2 r d) * table (V1 m ρ) c (ValueIdx.ix2 ⟨t.val, _⟩ d) + table (V1 m ρ) c (ValueIdx.ix2 ⟨4 + t.val, _⟩ d) = _
  rw [table_launch, table_scale, table_shift]
  unfold shift scale
  rw [sums_sum, sums_sq]
  rfl

/-- Each result's array at the end. -/
theorem end0 (hx : ∀ i, ∃ ξ : ℝ, arg m c 0 i = (ξ : EReal)) (hw : ∀ i, ∃ ω : ℝ, weight m c i = (ω : EReal)) :
    W2 m ρ c main_v0_0 = Ref.normalized (arg m c 0) (weight m c) (bias m c) 0 := by
  refine (W2_arr m ρ c 7).trans ((result_array0 (V1 m ρ) c).trans (Eq.trans ?_ (normed_eq m ρ c 0 hx hw)))
  exact congrArg (normed (n := 100000) · (table (V1 m ρ) c) 0) (W1_args m ρ c main_arg0 (by decide))

theorem end1 (hx : ∀ i, ∃ ξ : ℝ, arg m c 1 i = (ξ : EReal)) (hw : ∀ i, ∃ ω : ℝ, weight m c i = (ω : EReal)) :
    W2 m ρ c main_v0_1 = Ref.normalized (arg m c 1) (weight m c) (bias m c) 1 := by
  refine (W2_arr m ρ c 8).trans ((result_array1 (V1 m ρ) c).trans (Eq.trans ?_ (normed_eq m ρ c 1 hx hw)))
  exact congrArg (normed (n := 100000) · (table (V1 m ρ) c) 1) (W1_args m ρ c main_arg1 (by decide))

theorem end2 (hx : ∀ i, ∃ ξ : ℝ, arg m c 2 i = (ξ : EReal)) (hw : ∀ i, ∃ ω : ℝ, weight m c i = (ω : EReal)) :
    W2 m ρ c main_v0_2 = Ref.normalized (arg m c 2) (weight m c) (bias m c) 2 := by
  refine (W2_arr m ρ c 9).trans ((result_array2 (V1 m ρ) c).trans (Eq.trans ?_ (normed_eq m ρ c 2 hx hw)))
  exact congrArg (normed (n := 100000) · (table (V1 m ρ) c) 2) (W1_args m ρ c main_arg2 (by decide))

theorem end3 (hx : ∀ i, ∃ ξ : ℝ, arg m c 3 i = (ξ : EReal)) (hw : ∀ i, ∃ ω : ℝ, weight m c i = (ω : EReal)) :
    W2 m ρ c main_v0_3 = Ref.normalized (arg m c 3) (weight m c) (bias m c) 3 := by
  refine (W2_arr m ρ c 10).trans ((result_array3 (V1 m ρ) c).trans (Eq.trans ?_ (normed_eq m ρ c 3 hx hw)))
  exact congrArg (normed (n := 100000) · (table (V1 m ρ) c) 3) (W1_args m ρ c main_arg3 (by decide))

end Cert.KernelIdeal.Run

end
-- ==== Proof.lean ====
/- The certificate's claims: the two frames of the kernel, the reference's, the named constant, the value claim. -/
module

public import proofs.«01_k».proof.Defs
public import proofs.«01_k».proof.Proof.Gen.Kernel
public import proofs.«01_k».proof.Proof.Gen.KernelIdeal
public import proofs.«01_k».proof.Proof.Gen.ReferenceIdeal
public import proofs.«01_k».proof.Proof.Gen.ReferenceIdeal.Run
public import proofs.«01_k».proof.Proof.Gen.Pre_finite_inputs
public import proofs.«01_k».proof.Proof.K.Run
public import proofs.«01_k».proof.Proof.KI.Run
public import proofs.«01_k».proof.Proof.Val.Finite
public import proofs.«01_k».proof.Proof.Val.Result
public import Idealize.ShloMosaic.Adequacy
public import Idealize.ShloMosaic.Init
public import Idealize.ShloMosaic.Lib.Quiescent

@[expose] public section

set_option maxRecDepth 16384

noncomputable section

namespace Cert.Proof

open Idealize.ShloMosaic Idealize.ShloMosaic.TcCoe Idealize.SL.Sem

/-- The reference leaves its arguments and its counters alone. -/
theorem reference_unchanged : Cert.quiescent_ReferenceIdeal := fun m ρ _ =>
  (θ_run _ _ _).mono (fun r h => ⟨fun c => (h c).2.2.2.2, sem_eq_zero_of_no_sems (by decide) r.2⟩)
    (Cert.ReferenceIdeal.Value.run m ρ)

/-- What each result is, a matrix of the launch's arguments normalized. -/
abbrev answer (m : (ℓ : Loc KernelIdeal.nD KernelIdeal.τ KernelIdeal.sig) → Buf (Elt Ideal) ℓ) (t : Fin 4) (c : Dev KernelIdeal.nD) :
    FVec Ideal KernelIdeal.S100000x128 .f32 :=
  Ref.normalized (KernelIdeal.Run.arg m c t) (KernelIdeal.Run.weight m c) (KernelIdeal.Run.bias m c) t

/-- The kernel and the reference end with the same results over the reals, from real matrices and weights. -/
theorem agree : Cert.algebraic_KernelIdeal_ReferenceIdeal_pre_finite_inputs := by
  intro m g m' g' hpre hargs
  refine ⟨answer m 0, answer m 1, answer m 2, answer m 3, ?_, ?_⟩
  · refine (θ_run _ _ _).mono (fun r h c => ?_) (KernelIdeal.Run.ends m g)
    obtain ⟨hw, h0, h1, h2, h3⟩ := Finite.real_inputs _ _ _ _ _ _ (fun k => k.elim0) (congrFun (hpre c) _)
    have kept := fun b hb => h.1 c _ (KernelIdeal.Run.mem_uc b hb)
    exact ⟨(kept KernelIdeal.main_v0_0 (by decide)).trans (KernelIdeal.Run.end0 m g c h0 hw),
      (kept KernelIdeal.main_v0_1 (by decide)).trans (KernelIdeal.Run.end1 m g c h1 hw),
      (kept KernelIdeal.main_v0_2 (by decide)).trans (KernelIdeal.Run.end2 m g c h2 hw),
      (kept KernelIdeal.main_v0_3 (by decide)).trans (KernelIdeal.Run.end3 m g c h3 hw),
      (kept KernelIdeal.main_arg0 (by decide)).trans (KernelIdeal.Run.W2_main_arg0 m g c),
      (kept KernelIdeal.main_arg1 (by decide)).trans (KernelIdeal.Run.W2_main_arg1 m g c),
      (kept KernelIdeal.main_arg2 (by decide)).trans (KernelIdeal.Run.W2_main_arg2 m g c),
      (kept KernelIdeal.main_arg3 (by decide)).trans (KernelIdeal.Run.W2_main_arg3 m g c),
      (kept KernelIdeal.main_arg4 (by decide)).trans (KernelIdeal.Run.W2_main_arg4 m g c),
      (kept KernelIdeal.main_arg5 (by decide)).trans (KernelIdeal.Run.W2_main_arg5 m g c)⟩
  · refine (θ_run _ _ _).mono (fun r h c => ?_) (ReferenceIdeal.Value.run m' g')
    obtain ⟨e0, e1, e2, e3, e4, e5⟩ := hargs c
    have same : ∀ t : Fin 4, Ref.normalized (Ref.arg m' c t) (Ref.weight m' c) (Ref.bias m' c) t = answer m t c := by
      intro t
      unfold answer Ref.arg Ref.weight Ref.bias KernelIdeal.Run.arg KernelIdeal.Run.weight KernelIdeal.Run.bias
      rw [e0, e1, e2, e3, e4, e5]
    exact ⟨(h c).1.trans ((Ref.res0 m' c).trans (same 0)), (h c).2.1.trans ((Ref.res1 m' c).trans (same 1)),
      (h c).2.2.1.trans ((Ref.res2 m' c).trans (same 2)), (h c).2.2.2.1.trans ((Ref.res3 m' c).trans (same 3)), (h c).2.2.2.2⟩

theorem claim : Cert.Claim :=
  ⟨Cert.Kernel.Gen.facts, Cert.KernelIdeal.Gen.facts, Cert.ReferenceIdeal.Gen.facts, Cert.Pre_finite_inputs.Gen.facts,
    fun m g _ => Cert.Kernel.Run.unchanged m g,
    fun m g _ => Cert.KernelIdeal.Run.unchanged m g,
    fun m g _ => Cert.KernelIdeal.Run.unchanged m g,
    reference_unchanged,
    fun m g _ => reference_unchanged m g trivial,
    IdealRules.named_const.statement Cert.KernelIdeal.κ "inv_n" .f32 0x3727C5AC#32 _ rfl,
    agree⟩

end Cert.Proof

end
